-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_n" .f32 0x3D430C31#32 ((1 / 21 : ℝ) : EReal)
  ∧ IdealRules.named_const.Statement Cert.KernelIdeal.κ "inv_t1" .f32 0x3B43A13E#32 ((1 / 335 : ℝ) : EReal)

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S4096x336x21 : Shape := ⟨3, ![4096, 336, 21]⟩
abbrev S5x64 : Shape := ⟨2, ![5, 64]⟩
abbrev S64 : Shape := ⟨1, ![64]⟩
abbrev S5000x64 : Shape := ⟨2, ![5000, 64]⟩
abbrev S5000x96 : Shape := ⟨2, ![5000, 96]⟩
abbrev S_ : Shape := ⟨0, ![]⟩
abbrev S4096 : Shape := ⟨1, ![4096]⟩
abbrev S4096x336 : Shape := ⟨2, ![4096, 336]⟩
abbrev S4096x1 : Shape := ⟨2, ![4096, 1]⟩
abbrev S4096x5 : Shape := ⟨2, ![4096, 5]⟩
abbrev S4096x64 : Shape := ⟨2, ![4096, 64]⟩
abbrev S1x64 : Shape := ⟨2, ![1, 64]⟩
abbrev S64x5000 : Shape := ⟨2, ![64, 5000]⟩
abbrev S4096x5000 : Shape := ⟨2, ![4096, 5000]⟩
abbrev S4096x6 : Shape := ⟨2, ![4096, 6]⟩

class Facts : Prop where
  reducesTo_S4096x336x21_S4096x336_d2 : S4096x336x21.ReducesTo [2] S4096x336
  h_S_ : 0 < S_.numel
  bcast_S_S4096x336 : S_.BroadcastsInDim S4096x336 (![] : Fin 0 → Fin S4096x336.rank)
  reducesTo_S4096x336_S4096_d1 : S4096x336.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x336_0_1 : S4096x1.BroadcastsInDim S4096x336 (![0, 1] : Fin 2 → Fin S4096x336.rank)
  slices_S4096x336_S4096x1_0_335 : S4096x336.Slices ![0, 335] S4096x1
  slices_S4096x336_S4096x1_0_0 : S4096x336.Slices ![0, 0] S4096x1
  concatenates_S4096x1_S4096x1_S4096x1_S4096x1_S4096x1_S4096x5_d1 : Shape.Concatenates [S4096x1, S4096x1, S4096x1, S4096x1, S4096x1] S4096x5 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  bcast_S4096x1_S4096x64_0_1 : S4096x1.BroadcastsInDim S4096x64 (![0, 1] : Fin 2 → Fin S4096x64.rank)
  transposes_S5000x64_S64x5000_1_0 : S5000x64.Transposes [1, 0] S64x5000
  sliceFits_S4096x5000_S4096x6 : S4096x5000.Slices (fun _ => 0) S4096x6
  bcast_S_S4096x336x21 : S_.BroadcastsInDim S4096x336x21 (![] : Fin 0 → Fin S4096x336x21.rank)
  bcast_S_S5000x64 : S_.BroadcastsInDim S5000x64 (![] : Fin 0 → Fin S5000x64.rank)
  bcast_S_S5000x96 : S_.BroadcastsInDim S5000x96 (![] : Fin 0 → Fin S5000x96.rank)
  slices_S4096x6_S4096x5_0_0 : S4096x6.Slices ![0, 0] S4096x5
  slices_S4096x6_S4096x5_0_1 : S4096x6.Slices ![0, 1] S4096x5
  dot_S4096x5_S5x64_S4096x64_1_0_0_1_n_n_wf : DotDims.WF S4096x5 S5x64 S4096x64 [1] [0] [0] [1] [] []
  dot_S4096x64_S64x5000_S4096x5000_1_0_0_1_n_n_wf : DotDims.WF S4096x64 S64x5000 S4096x5000 [1] [0] [0] [1] [] []

variable [Facts]

def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x5000_S4096x5000_1_0_0_1_n_n : DotDims S4096x64 S64x5000 S4096x5000 where
  lhsContracting := [1]
  rhsContracting := [0]
  lhsNonContracting := [0]
  rhsNonContracting := [1]
  lhsBatch := []
  rhsBatch := []
  wf := dot_S4096x64_S64x5000_S4096x5000_1_0_0_1_n_n_wf
def fn_where {F : FTy → Type} [FloatOps F] (arg0 : IVec S_ 1) (arg1 : FVec F S4096x1 .f32) (arg2 : FVec F S_ .f32) : FVec F S4096x1 .f32 :=
  let v0 : FVec F S_ .f32 := id arg2
  let v1 : FVec F S4096x1 .f32 := broadcastInDim S4096x1 ![] bcast_S_S4096x1 v0
  let v2 : FVec F S4096x1 .f32 := (fun p a b => select (broadcastInDim S4096x1 ![] bcast_S_S4096x1 p) a b) arg0 arg1 v1
  v2

def fn_var {F : FTy → Type} [FloatOps F] (arg0 : FVec F S4096x336 .f32) (arg1 : IVec S_ 32) : FVec F S4096x1 .f32 :=
  let cst : FVec F S_ .f32 := constant S_ .f32 0x00000000#32
  let v0 : FVec F S4096 .f32 := (fun x v => Host.reduceAdd x v reducesTo_S4096x336_S4096_d1 h_S_) arg0 cst
  let v1 : FVec F S4096x1 .f32 := broadcastInDim S4096x1 ![0] bcast_S4096_S4096x1_0 v0
  let cst_0 : FVec F S_ .f32 := constant S_ .f32 0x43A80000#32
  let v2 : FVec F S4096x1 .f32 := broadcastInDim S4096x1 ![] bcast_S_S4096x1 cst_0
  let v3 : FVec F S4096x1 .f32 := Host.divf v1 v2
  let v4 : FVec F S4096x336 .f32 := broadcastInDim S4096x336 ![0, 1] bcast_S4096x1_S4096x336_0_1 v3
  let v5 : FVec F S4096x336 .f32 := subf arg0 v4
  let v6 : FVec F S4096x336 .f32 := mulf v5 v5
  let v7 : FVec F S_ .f32 := sitofp .f32 arg1
  let cst_1 : FVec F S_ .f32 := constant S_ .f32 0x43A80000#32
  let v8 : FVec F S_ .f32 := subf cst_1 v7
  let cst_2 : FVec F S_ .f32 := constant S_ .f32 0x00000000#32
  let v9 : FVec F S4096 .f32 := (fun x v => Host.reduceAdd x v reducesTo_S4096x336_S4096_d1 h_S_) v6 cst_2
  let v10 : FVec F S4096x1 .f32 := broadcastInDim S4096x1 ![0] bcast_S4096_S4096x1_0 v9
  let v11 : FVec F S4096x1 .f32 := broadcastInDim S4096x1 ![] bcast_S_S4096x1 v8
  let v12 : FVec F S4096x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4096x1 .f32 := fn_where (F := F) v13 v12 cst_4
  v14

def fn_std {F : FTy → Type} [FloatOps F] (arg0 : FVec F S4096x336 .f32) (arg1 : IVec S_ 32) : FVec F S4096x1 .f32 :=
  let v0 : FVec F S4096x1 .f32 := fn_var (F := F) arg0 arg1
  let v1 : FVec F S4096x1 .f32 := Host.sqrt v0
  v1

def fn_clip {F : FTy → Type} [FloatOps F] (arg0 : FVec F S4096x1 .f32) (arg1 : FVec F S_ .f32) : FVec F S4096x1 .f32 :=
  let v0 : FVec F S_ .f32 := id arg1
  let v1 : FVec F S4096x1 .f32 := broadcastInDim S4096x1 ![] bcast_S_S4096x1 v0
  let v2 : FVec F S4096x1 .f32 := maximumf v1 arg0
  v2

def fn_var_0 {F : FTy → Type} [FloatOps F] (arg0 : FVec F S4096x64 .f32) (arg1 : IVec S_ 32) : FVec F S4096x1 .f32 :=
  let cst : FVec F S_ .f32 := constant S_ .f32 0x00000000#32
  let v0 : FVec F S4096 .f32 := (fun x v => Host.reduceAdd x v reducesTo_S4096x64_S4096_d1 h_S_) arg0 cst
  let v1 : FVec F S4096x1 .f32 := broadcastInDim S4096x1 ![0] bcast_S4096_S4096x1_0 v0
  let cst_0 : FVec F S_ .f32 := constant S_ .f32 0x42800000#32
  let v2 : FVec F S4096x1 .f32 := broadcastInDim S4096x1 ![] bcast_S_S4096x1 cst_0
  let v3 : FVec F S4096x1 .f32 := Host.divf v1 v2
  let v4 : FVec F S4096x64 .f32 := broadcastInDim S4096x64 ![0, 1] bcast_S4096x1_S4096x64_0_1 v3
  let v5 : FVec F S4096x64 .f32 := subf arg0 v4
  let v6 : FVec F S4096x64 .f32 := mulf v5 v5
  let v7 : FVec F S_ .f32 := sitofp .f32 arg1
  let cst_1 : FVec F S_ .f32 := constant S_ .f32 0x42800000#32
  let v8 : FVec F S_ .f32 := subf cst_1 v7
  let cst_2 : FVec F S_ .f32 := constant S_ .f32 0x00000000#32
  let v9 : FVec F S4096 .f32 := (fun x v => Host.reduceAdd x v reducesTo_S4096x64_S4096_d1 h_S_) v6 cst_2
  let v10 : FVec F S4096x1 .f32 := broadcastInDim S4096x1 ![0] bcast_S4096_S4096x1_0 v9
  let v11 : FVec F S4096x1 .f32 := broadcastInDim S4096x1 ![] bcast_S_S4096x1 v8
  let v12 : FVec F S4096x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4096x1 .f32 := fn_where (F := F) v13 v12 cst_4
  v14

def fn_norm {F : FTy → Type} [FloatOps F] (arg0 : FVec F S4096x64 .f32) : FVec F S4096x1 .f32 :=
  let v0 : FVec F S4096x64 .f32 := mulf arg0 arg0
  let cst : FVec F S_ .f32 := constant S_ .f32 0x00000000#32
  let v1 : FVec F S4096 .f32 := (fun x v => Host.reduceAdd x v reducesTo_S4096x64_S4096_d1 h_S_) v0 cst
  let v2 : FVec F S4096x1 .f32 := broadcastInDim S4096x1 ![0] bcast_S4096_S4096x1_0 v1
  let v3 : FVec F S4096x1 .f32 := Host.sqrt v2
  v3

def fn_part3 {F : FTy → Type} [FloatOps F] (main_values : FVec F S4096x6 .f32) (main_v47 : IVec S4096x336x21 1) (main_v50 : IVec S5000x64 1) (main_v53 : IVec S5000x96 1) : IVec S4096x336x21 1 × IVec S5000x64 1 × IVec S5000x96 1 × IVec S4096x5 1 :=
  let main_v54 : FVec F S4096x5 .f32 := (extractStridedSlice S4096x5 ![0, 0] · slices_S4096x6_S4096x5_0_0) main_values
  let main_v55 : FVec F S4096x5 .f32 := (extractStridedSlice S4096x5 ![0, 1] · slices_S4096x6_S4096x5_0_1) main_values
  let main_v56 : IVec S4096x5 1 := cmpf .ogt main_v54 main_v55
  (main_v47, main_v50, main_v53, main_v56)

def fn_part2 {F : FTy → Type} [FloatOps F] (main_arg0 : FVec F S4096x336x21 .f32) (main_arg4 : FVec F S64 .f32) (main_arg5 : FVec F S5000x64 .f32) (main_arg6 : FVec F S5000x96 .f32) (main_v35 : FVec F S4096x64 .f32) : IVec S4096x336x21 1 × IVec S5000x64 1 × IVec S5000x96 1 × IVec S4096x5 1 :=
  let main_v36 : FVec F S1x64 .f32 := broadcastInDim S1x64 ![1] bcast_S64_S1x64_1 main_arg4
  let main_v37 : FVec F S4096x64 .f32 := broadcastInDim S4096x64 ![0, 1] bcast_S1x64_S4096x64_0_1 main_v36
  let main_v38 : FVec F S4096x64 .f32 := addf main_v35 main_v37
  let main_v39 : FVec F S4096x1 .f32 := fn_norm (F := F) main_v38
  let main_cst_10 : FVec F S_ .f32 := constant S_ .f32 0x2B8CBCCC#32
  let main_v40 : FVec F S4096x1 .f32 := fn_clip (F := F) main_v39 main_cst_10
  let main_v41 : FVec F S4096x64 .f32 := broadcastInDim S4096x64 ![0, 1] bcast_S4096x1_S4096x64_0_1 main_v40
  let main_v42 : FVec F S4096x64 .f32 := Host.divf main_v38 main_v41
  let main_v43 : FVec F S64x5000 .f32 := (transpose S64x5000 [1, 0] · transposes_S5000x64_S64x5000_1_0) main_arg5
  let main_v44 : FVec F S4096x5000 .f32 := (fun l r => Host.dotGeneral dot_S4096x64_S64x5000_S4096x5000_1_0_0_1_n_n none l r) main_v42 main_v43
  let main_values : FVec F S4096x6 .f32 := (fun x => (Host.topK S4096x6 1 (FloatOps.cmpfTotal .gt) x sliceFits_S4096x5000_S4096x6).1) main_v44
  let main_indices : IVec S4096x6 32 := (fun x => (Host.topK S4096x6 1 (FloatOps.cmpfTotal .gt) x sliceFits_S4096x5000_S4096x6).2) main_v44
  let main_v45 : FVec F S4096x336x21 .f32 := Host.absf main_arg0
  let main_cst_11 : FVec F S_ .f32 := constant S_ .f32 0x7F800000#32
  let main_v46 : FVec F S4096x336x21 .f32 := broadcastInDim S4096x336x21 ![] bcast_S_S4096x336x21 main_cst_11
  let main_v47 : IVec S4096x336x21 1 := cmpf .olt main_v45 main_v46
  let main_v48 : FVec F S5000x64 .f32 := Host.absf main_arg5
  let main_cst_12 : FVec F S_ .f32 := constant S_ .f32 0x7F800000#32
  let main_v49 : FVec F S5000x64 .f32 := broadcastInDim S5000x64 ![] bcast_S_S5000x64 main_cst_12
  let main_v50 : IVec S5000x64 1 := cmpf .olt main_v48 main_v49
  let main_v51 : FVec F S5000x96 .f32 := Host.absf main_arg6
  let main_cst_13 : FVec F S_ .f32 := constant S_ .f32 0x7F800000#32
  let main_v52 : FVec F S5000x96 .f32 := broadcastInDim S5000x96 ![] bcast_S_S5000x96 main_cst_13
  let main_v53 : IVec S5000x96 1 := cmpf .olt main_v51 main_v52
  fn_part3 (F := F) main_values main_v47 main_v50 main_v53

def fn_part1 {F : FTy → Type} [FloatOps F] (main_arg0 : FVec F S4096x336x21 .f32) (main_arg1 : FVec F S5x64 .f32) (main_arg2 : FVec F S64 .f32) (main_arg3 : FVec F S64 .f32) (main_arg4 : FVec F S64 .f32) (main_arg5 : FVec F S5000x64 .f32) (main_arg6 : FVec F S5000x96 .f32) (main_v6 : FVec F S4096x1 .f32) (main_v8 : FVec F S4096x1 .f32) (main_v10 : FVec F S4096x1 .f32) (main_v12 : FVec F S4096x1 .f32) (main_v15 : FVec F S4096x1 .f32) : IVec S4096x336x21 1 × IVec S5000x64 1 × IVec S5000x96 1 × IVec S4096x5 1 :=
  let main_v16 : FVec F S4096x5 .f32 := concatenate S4096x5 1 [⟨S4096x1, main_v6⟩, ⟨S4096x1, main_v8⟩, ⟨S4096x1, main_v10⟩, ⟨S4096x1, main_v12⟩, ⟨S4096x1, main_v15⟩] concatenates_S4096x1_S4096x1_S4096x1_S4096x1_S4096x1_S4096x5_d1
  let main_v17 : FVec F S4096x64 .f32 := (fun l r => Host.dotGeneral dot_S4096x5_S5x64_S4096x64_1_0_0_1_n_n none l r) main_v16 main_arg1
  let main_v18 : FVec F S1x64 .f32 := broadcastInDim S1x64 ![1] bcast_S64_S1x64_1 main_arg2
  let main_v19 : FVec F S4096x64 .f32 := broadcastInDim S4096x64 ![0, 1] bcast_S1x64_S4096x64_0_1 main_v18
  let main_v20 : FVec F S4096x64 .f32 := addf main_v17 main_v19
  let main_cst_6 : FVec F S_ .f32 := constant S_ .f32 0x00000000#32
  let main_v21 : FVec F S4096 .f32 := (fun x v => Host.reduceAdd x v reducesTo_S4096x64_S4096_d1 h_S_) main_v20 main_cst_6
  let main_v22 : FVec F S4096x1 .f32 := broadcastInDim S4096x1 ![0] bcast_S4096_S4096x1_0 main_v21
  let main_cst_7 : FVec F S_ .f32 := constant S_ .f32 0x42800000#32
  let main_v23 : FVec F S4096x1 .f32 := broadcastInDim S4096x1 ![] bcast_S_S4096x1 main_cst_7
  let main_v24 : FVec F S4096x1 .f32 := Host.divf main_v22 main_v23
  let main_c_8 : IVec S_ 32 := constantI S_ 32 0#32
  let main_v25 : FVec F S4096x1 .f32 := fn_var_0 (F := F) main_v20 main_c_8
  let main_v26 : FVec F S4096x64 .f32 := broadcastInDim S4096x64 ![0, 1] bcast_S4096x1_S4096x64_0_1 main_v24
  let main_v27 : FVec F S4096x64 .f32 := subf main_v20 main_v26
  let main_cst_9 : FVec F S_ .f32 := constant S_ .f32 0x3727C5AC#32
  let main_v28 : FVec F S4096x1 .f32 := broadcastInDim S4096x1 ![] bcast_S_S4096x1 main_cst_9
  let main_v29 : FVec F S4096x1 .f32 := addf main_v25 main_v28
  let main_v30 : FVec F S4096x1 .f32 := Host.sqrt main_v29
  let main_v31 : FVec F S4096x64 .f32 := broadcastInDim S4096x64 ![0, 1] bcast_S4096x1_S4096x64_0_1 main_v30
  let main_v32 : FVec F S4096x64 .f32 := Host.divf main_v27 main_v31
  let main_v33 : FVec F S1x64 .f32 := broadcastInDim S1x64 ![1] bcast_S64_S1x64_1 main_arg3
  let main_v34 : FVec F S4096x64 .f32 := broadcastInDim S4096x64 ![0, 1] bcast_S1x64_S4096x64_0_1 main_v33
  let main_v35 : FVec F S4096x64 .f32 := mulf main_v32 main_v34
  fn_part2 (F := F) main_arg0 main_arg4 main_arg5 main_arg6 main_v35

def fn {F : FTy → Type} [FloatOps F] (main_arg0 : FVec F S4096x336x21 .f32) (main_arg1 : FVec F S5x64 .f32) (main_arg2 : FVec F S64 .f32) (main_arg3 : FVec F S64 .f32) (main_arg4 : FVec F S64 .f32) (main_arg5 : FVec F S5000x64 .f32) (main_arg6 : FVec F S5000x96 .f32) (main_arg7 : FVec F S_ .f32) (main_arg8 : IVec S4096 1) : IVec S4096x336x21 1 × IVec S5000x64 1 × IVec S5000x96 1 × IVec S4096x5 1 :=
  let main_cst : FVec F S_ .f32 := constant S_ .f32 0x00000000#32
  let main_v0 : FVec F S4096x336 .f32 := (fun x v => Host.reduceAdd x v reducesTo_S4096x336x21_S4096x336_d2 h_S_) main_arg0 main_cst
  let main_cst_0 : FVec F S_ .f32 := constant S_ .f32 0x41A80000#32
  let main_v1 : FVec F S4096x336 .f32 := broadcastInDim S4096x336 ![] bcast_S_S4096x336 main_cst_0
  let main_v2 : FVec F S4096x336 .f32 := Host.divf main_v0 main_v1
  let main_cst_1 : FVec F S_ .f32 := constant S_ .f32 0x00000000#32
  let main_v3 : FVec F S4096 .f32 := (fun x v => Host.reduceAdd x v reducesTo_S4096x336_S4096_d1 h_S_) main_v2 main_cst_1
  let main_v4 : FVec F S4096x1 .f32 := broadcastInDim S4096x1 ![0] bcast_S4096_S4096x1_0 main_v3
  let main_cst_2 : FVec F S_ .f32 := constant S_ .f32 0x43A80000#32
  let main_v5 : FVec F S4096x1 .f32 := broadcastInDim S4096x1 ![] bcast_S_S4096x1 main_cst_2
  let main_v6 : FVec F S4096x1 .f32 := Host.divf main_v4 main_v5
  let main_c : IVec S_ 32 := constantI S_ 32 1#32
  let main_v7 : FVec F S4096x1 .f32 := fn_std (F := F) main_v2 main_c
  let main_cst_3 : FVec F S_ .f32 := constant S_ .f32 0x358637BD#32
  let main_v8 : FVec F S4096x1 .f32 := fn_clip (F := F) main_v7 main_cst_3
  let main_cst_4 : FVec F S_ .f32 := constant S_ .f32 0xFF800000#32
  let main_v9 : FVec F S4096 .f32 := (fun x v => Host.reduce FloatOps.maximumf x v reducesTo_S4096x336_S4096_d1 h_S_) main_v2 main_cst_4
  let main_v10 : FVec F S4096x1 .f32 := broadcastInDim S4096x1 ![0] bcast_S4096_S4096x1_0 main_v9
  let main_cst_5 : FVec F S_ .f32 := constant S_ .f32 0x7F800000#32
  let main_v11 : FVec F S4096 .f32 := (fun x v => Host.reduce FloatOps.minimumf x v reducesTo_S4096x336_S4096_d1 h_S_) main_v2 main_cst_5
  let main_v12 : FVec F S4096x1 .f32 := broadcastInDim S4096x1 ![0] bcast_S4096_S4096x1_0 main_v11
  let main_v13 : FVec F S4096x1 .f32 := (extractStridedSlice S4096x1 ![0, 335] · slices_S4096x336_S4096x1_0_335) main_v2
  let main_v14 : FVec F S4096x1 .f32 := (extractStridedSlice S4096x1 ![0, 0] · slices_S4096x336_S4096x1_0_0) main_v2
  let main_v15 : FVec F S4096x1 .f32 := subf main_v13 main_v14
  fn_part1 (F := F) main_arg0 main_arg1 main_arg2 main_arg3 main_arg4 main_arg5 main_arg6 main_v6 main_v8 main_v10 main_v12 main_v15
-- ==== Kernel.lean ====
abbrev S4096x336x21 : Shape := ⟨3, ![4096, 336, 21]⟩
abbrev S5x64 : Shape := ⟨2, ![5, 64]⟩
abbrev S64 : Shape := ⟨1, ![64]⟩
abbrev S5000x64 : Shape := ⟨2, ![5000, 64]⟩
abbrev S5000x96 : Shape := ⟨2, ![5000, 96]⟩
abbrev S_ : Shape := ⟨0, ![]⟩
abbrev S4096 : Shape := ⟨1, ![4096]⟩
abbrev S21x336x4096 : Shape := ⟨3, ![21, 336, 4096]⟩
abbrev S4096x1 : Shape := ⟨2, ![4096, 1]⟩
abbrev S5000x256 : Shape := ⟨2, ![5000, 256]⟩
abbrev S5000x192 : Shape := ⟨2, ![5000, 192]⟩
abbrev S1x64 : Shape := ⟨2, ![1, 64]⟩
abbrev S4096x96 : Shape := ⟨2, ![4096, 96]⟩
abbrev S21x336x256 : Shape := ⟨3, ![21, 336, 256]⟩
abbrev S256x1 : Shape := ⟨2, ![256, 1]⟩
abbrev S256x96 : Shape := ⟨2, ![256, 96]⟩
abbrev S336x256 : Shape := ⟨2, ![336, 256]⟩
abbrev S256 : Shape := ⟨1, ![256]⟩
abbrev S1x256 : Shape := ⟨2, ![1, 256]⟩
abbrev S5x256 : Shape := ⟨2, ![5, 256]⟩
abbrev S256x5 : Shape := ⟨2, ![256, 5]⟩
abbrev S256x64 : Shape := ⟨2, ![256, 64]⟩
abbrev S256x256 : Shape := ⟨2, ![256, 256]⟩
abbrev S256x5000 : Shape := ⟨2, ![256, 5000]⟩
abbrev S256x192 : Shape := ⟨2, ![256, 192]⟩

abbrev nBuf : Space → Nat
  | .hbm => 46
  | .vmem => 14
  | .smem => 0
  | _ => 0

abbrev bufTy : (tb : Table) → Fin (tcTables nBuf tb) → BufTy
  | .hbm, ⟨0, _⟩ => ⟨S4096x336x21, .f32⟩
  | .hbm, ⟨1, _⟩ => ⟨S5x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S5000x64, .f32⟩
  | .hbm, ⟨6, _⟩ => ⟨S5000x96, .f32⟩
  | .hbm, ⟨7, _⟩ => ⟨S_, .f32⟩
  | .hbm, ⟨8, _⟩ => ⟨S4096, .i1⟩
  | .hbm, ⟨9, _⟩ => ⟨S21x336x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S5000x64, .bf16⟩
  | .hbm, ⟨28, _⟩ => ⟨S5000x64, .f32⟩
  | .hbm, ⟨29, _⟩ => ⟨S5000x64, .f32⟩
  | .hbm, ⟨30, _⟩ => ⟨S5000x64, .bf16⟩
  | .hbm, ⟨31, _⟩ => ⟨S5000x256, .bf16⟩
  | .hbm, ⟨32, _⟩ => ⟨S5000x96, .bf16⟩
  | .hbm, ⟨33, _⟩ => ⟨S5000x96, .f32⟩
  | .hbm, ⟨34, _⟩ => ⟨S5000x96, .f32⟩
  | .hbm, ⟨35, _⟩ => ⟨S5000x96, .bf16⟩
  | .hbm, ⟨36, _⟩ => ⟨S5000x192, .bf16⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S4096x96, .f32⟩
  | .hbm, ⟨41, _⟩ => ⟨S4096x1, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .i1⟩
  | .local _ .vmem, ⟨0, _⟩ => ⟨S21x336x256, .f32⟩
  | .local _ .vmem, ⟨1, _⟩ => ⟨S21x336x256, .f32⟩
  | .local _ .vmem, ⟨2, _⟩ => ⟨S5x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S5000x256, .bf16⟩
  | .local _ .vmem, ⟨7, _⟩ => ⟨S5000x192, .bf16⟩
  | .local _ .vmem, ⟨8, _⟩ => ⟨S256x1, .f32⟩
  | .local _ .vmem, ⟨9, _⟩ => ⟨S256x1, .f32⟩
  | .local _ .vmem, ⟨10, _⟩ => ⟨S256x96, .f32⟩
  | .local _ .vmem, ⟨11, _⟩ => ⟨S256x96, .f32⟩
  | .local _ .vmem, ⟨12, _⟩ => ⟨S256x1, .f32⟩
  | .local _ .vmem, ⟨13, _⟩ => ⟨S256x1, .f32⟩
  | _, _ => ⟨S4096x336x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S21x336x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5000x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5000x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_n" => some ((1 / 21 : ℝ) : EReal)
  | "inv_t1" => some ((1 / 335 : ℝ) : EReal)
  | _ => none
-- ==== ReferenceIdeal.lean ====
abbrev S4096x336x21 : Shape := ⟨3, ![4096, 336, 21]⟩
abbrev S5x64 : Shape := ⟨2, ![5, 64]⟩
abbrev S64 : Shape := ⟨1, ![64]⟩
abbrev S5000x64 : Shape := ⟨2, ![5000, 64]⟩
abbrev S5000x96 : Shape := ⟨2, ![5000, 96]⟩
abbrev S_ : Shape := ⟨0, ![]⟩
abbrev S4096 : Shape := ⟨1, ![4096]⟩
abbrev S4096x336 : Shape := ⟨2, ![4096, 336]⟩
abbrev S4096x1 : Shape := ⟨2, ![4096, 1]⟩
abbrev S4096x5 : Shape := ⟨2, ![4096, 5]⟩
abbrev S4096x64 : Shape := ⟨2, ![4096, 64]⟩
abbrev S1x64 : Shape := ⟨2, ![1, 64]⟩
abbrev S64x5000 : Shape := ⟨2, ![64, 5000]⟩
abbrev S4096x5000 : Shape := ⟨2, ![4096, 5000]⟩
abbrev S4096x5x1 : Shape := ⟨3, ![4096, 5, 1]⟩
abbrev S4096x5x96 : Shape := ⟨3, ![4096, 5, 96]⟩
abbrev S4096x96 : Shape := ⟨2, ![4096, 96]⟩

abbrev nBuf : Space → Nat
  | .hbm => 173
  | .vmem => 0
  | .smem => 0
  | _ => 0

abbrev hbmTy0_0 (i : Nat) : BufTy := match i % 128 with
  | 0 => ⟨S4096x336x21, .f32⟩
  | 1 => ⟨S5x64, .f32⟩
  | 2 => ⟨S64, .f32⟩
  | 3 => ⟨S64, .f32⟩
  | 4 => ⟨S64, .f32⟩
  | 5 => ⟨S5000x64, .f32⟩
  | 6 => ⟨S5000x96, .f32⟩
  | 7 => ⟨S_, .f32⟩
  | 8 => ⟨S4096, .i1⟩
  | 9 => ⟨S_, .f32⟩
  | 10 => ⟨S4096x336, .f32⟩
  | 11 => ⟨S_, .f32⟩
  | 12 => ⟨S4096x336, .f32⟩
  | 13 => ⟨S4096x336, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .i32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x336, .f32⟩
  | 28 => ⟨S4096x336, .f32⟩
  | 29 => ⟨S4096x336, .f32⟩
  | 30 => ⟨S_, .f32⟩
  | 31 => ⟨S_, .f32⟩
  | 32 => ⟨S_, .f32⟩
  | 33 => ⟨S_, .f32⟩
  | 34 => ⟨S4096, .f32⟩
  | 35 => ⟨S4096x1, .f32⟩
  | 36 => ⟨S4096x1, .f32⟩
  | 37 => ⟨S4096x1, .f32⟩
  | 38 => ⟨S_, .f32⟩
  | 39 => ⟨S_, .i1⟩
  | 40 => ⟨S_, .f32⟩
  | 41 => ⟨S_, .f32⟩
  | 42 => ⟨S4096x1, .f32⟩
  | 43 => ⟨S4096x1, .f32⟩
  | 44 => ⟨S4096x1, .f32⟩
  | 45 => ⟨S_, .f32⟩
  | 46 => ⟨S_, .f32⟩
  | 47 => ⟨S4096x1, .f32⟩
  | 48 => ⟨S4096x1, .f32⟩
  | 49 => ⟨S_, .f32⟩
  | 50 => ⟨S4096, .f32⟩
  | 51 => ⟨S4096x1, .f32⟩
  | 52 => ⟨S_, .f32⟩
  | 53 => ⟨S4096, .f32⟩
  | 54 => ⟨S4096x1, .f32⟩
  | 55 => ⟨S4096x1, .f32⟩
  | 56 => ⟨S4096x1, .f32⟩
  | 57 => ⟨S4096x1, .f32⟩
  | 58 => ⟨S4096x5, .f32⟩
  | 59 => ⟨S4096x64, .f32⟩
  | 60 => ⟨S1x64, .f32⟩
  | 61 => ⟨S4096x64, .f32⟩
  | 62 => ⟨S4096x64, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .i32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x64, .f32⟩
  | 77 => ⟨S4096x64, .f32⟩
  | 78 => ⟨S4096x64, .f32⟩
  | 79 => ⟨S_, .f32⟩
  | 80 => ⟨S_, .f32⟩
  | 81 => ⟨S_, .f32⟩
  | 82 => ⟨S_, .f32⟩
  | 83 => ⟨S4096, .f32⟩
  | 84 => ⟨S4096x1, .f32⟩
  | 85 => ⟨S4096x1, .f32⟩
  | 86 => ⟨S4096x1, .f32⟩
  | 87 => ⟨S_, .f32⟩
  | 88 => ⟨S_, .i1⟩
  | 89 => ⟨S_, .f32⟩
  | 90 => ⟨S_, .f32⟩
  | 91 => ⟨S4096x1, .f32⟩
  | 92 => ⟨S4096x1, .f32⟩
  | 93 => ⟨S4096x64, .f32⟩
  | 94 => ⟨S4096x64, .f32⟩
  | 95 => ⟨S_, .f32⟩
  | 96 => ⟨S4096x1, .f32⟩
  | 97 => ⟨S4096x1, .f32⟩
  | 98 => ⟨S4096x1, .f32⟩
  | 99 => ⟨S4096x64, .f32⟩
  | 100 => ⟨S4096x64, .f32⟩
  | 101 => ⟨S1x64, .f32⟩
  | 102 => ⟨S4096x64, .f32⟩
  | 103 => ⟨S4096x64, .f32⟩
  | 104 => ⟨S1x64, .f32⟩
  | 105 => ⟨S4096x64, .f32⟩
  | 106 => ⟨S4096x64, .f32⟩
  | 107 => ⟨S4096x64, .f32⟩
  | 108 => ⟨S_, .f32⟩
  | 109 => ⟨S4096, .f32⟩
  | 110 => ⟨S4096x1, .f32⟩
  | 111 => ⟨S4096x1, .f32⟩
  | 112 => ⟨S_, .f32⟩
  | 113 => ⟨S_, .f32⟩
  | 114 => ⟨S4096x1, .f32⟩
  | 115 => ⟨S4096x1, .f32⟩
  | 116 => ⟨S4096x64, .f32⟩
  | 117 => ⟨S4096x64, .f32⟩
  | 118 => ⟨S64x5000, .f32⟩
  | 119 => ⟨S4096x5000, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S4096, .f32⟩
  | 127 => ⟨S4096, .f32⟩
  | _ => ⟨S4096x336x21, .f32⟩

abbrev hbmTy0_1 (i : Nat) : BufTy := match i % 128 with
  | 0 => ⟨S_, .f32⟩
  | 1 => ⟨S4096, .f32⟩
  | 2 => ⟨S4096, .f32⟩
  | 3 => ⟨S4096, .f32⟩
  | 4 => ⟨S_, .f32⟩
  | 5 => ⟨S_, .f32⟩
  | 6 => ⟨S4096, .f32⟩
  | 7 => ⟨S4096, .f32⟩
  | 8 => ⟨S_, .f32⟩
  | 9 => ⟨S4096, .f32⟩
  | 10 => ⟨S4096, .i1⟩
  | 11 => ⟨S4096x5, .f32⟩
  | 12 => ⟨S4096x5, .i32⟩
  | 13 => ⟨S_, .i32⟩
  | 14 => ⟨S4096x5, .i32⟩
  | 15 => ⟨S4096x5, .i1⟩
  | 16 => ⟨S_, .i32⟩
  | 17 => ⟨S4096x5, .i32⟩
  | 18 => ⟨S4096x5, .i32⟩
  | 19 => ⟨S4096x5, .i32⟩
  | 20 => ⟨S4096x5x1, .i32⟩
  | 21 => ⟨S4096x5x96, .f32⟩
  | 22 => ⟨S_, .f32⟩
  | 23 => ⟨S4096, .f32⟩
  | 24 => ⟨S_, .f32⟩
  | 25 => ⟨S4096, .f32⟩
  | 26 => ⟨S4096, .f32⟩
  | 27 => ⟨S4096x1, .f32⟩
  | 28 => ⟨S4096x5, .f32⟩
  | 29 => ⟨S4096x5, .f32⟩
  | 30 => ⟨S4096x5, .f32⟩
  | 31 => ⟨S_, .f32⟩
  | 32 => ⟨S4096, .f32⟩
  | 33 => ⟨S4096x1, .f32⟩
  | 34 => ⟨S4096x5, .f32⟩
  | 35 => ⟨S4096x5, .f32⟩
  | 36 => ⟨S4096x5x1, .f32⟩
  | 37 => ⟨S4096x5x96, .f32⟩
  | 38 => ⟨S4096x5x96, .f32⟩
  | 39 => ⟨S_, .f32⟩
  | 40 => ⟨S4096x96, .f32⟩
  | 41 => ⟨S4096, .f32⟩
  | 42 => ⟨S4096x1, .f32⟩
  | 43 => ⟨S4096x96, .f32⟩
  | 44 => ⟨S4096x96, .f32⟩
  | _ => ⟨S4096x336x21, .f32⟩

abbrev hbmTy (i : Nat) : BufTy := match i / 128 with
  | 0 => hbmTy0_0 i
  | 1 => hbmTy0_1 i
  | _ => ⟨S4096x336x21, .f32⟩

abbrev bufTy : (tb : Table) → Fin (tcTables nBuf tb) → BufTy
  | .hbm, ⟨i, _⟩ => hbmTy i
  | _, _ => ⟨S4096x336x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_v12 : Ref sig .tc := ⟨.hbm, 37, rfl⟩
abbrev main_call0_call0_cst_3 : Ref sig .tc := ⟨.hbm, 38, rfl⟩
abbrev main_call0_call0_v13 : Ref sig .tc := ⟨.hbm, 39, rfl⟩
abbrev main_call0_call0_cst_4 : Ref sig .tc := ⟨.hbm, 40, rfl⟩
abbrev main_call0_call0_call0_v0 : Ref sig .tc := ⟨.hbm, 41, rfl⟩
abbrev main_call0_call0_call0_v1 : Ref sig .tc := ⟨.hbm, 42, rfl⟩
abbrev main_call0_v0 : Ref sig .tc := ⟨.hbm, 43, rfl⟩
abbrev main_v7 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v8 : Ref sig .tc := ⟨.hbm, 48, rfl⟩
abbrev main_cst_4 : Ref sig .tc := ⟨.hbm, 49, rfl⟩
abbrev main_v9 : Ref sig .tc := ⟨.hbm, 50, rfl⟩
abbrev main_v10 : Ref sig .tc := ⟨.hbm, 51, rfl⟩
abbrev main_cst_5 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_6 : Ref sig .tc := ⟨.hbm, 63, rfl⟩
abbrev main_v21 : Ref sig .tc := ⟨.hbm, 64, rfl⟩
abbrev main_v22 : Ref sig .tc := ⟨.hbm, 65, rfl⟩
abbrev main_cst_7 : Ref sig .tc := ⟨.hbm, 66, rfl⟩
abbrev main_v23 : Ref sig .tc := ⟨.hbm, 67, rfl⟩
abbrev main_v24 : Ref sig .tc := ⟨.hbm, 68, rfl⟩
abbrev main_c_8 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_cst_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_cst_1 : Ref sig .tc := ⟨.hbm, 80, rfl⟩
abbrev main_call2_v8 : Ref sig .tc := ⟨.hbm, 81, rfl⟩
abbrev main_call2_cst_2 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_v12 : Ref sig .tc := ⟨.hbm, 86, rfl⟩
abbrev main_call2_cst_3 : Ref sig .tc := ⟨.hbm, 87, rfl⟩
abbrev main_call2_v13 : Ref sig .tc := ⟨.hbm, 88, rfl⟩
abbrev main_call2_cst_4 : Ref sig .tc := ⟨.hbm, 89, rfl⟩
abbrev main_call2_call0_v0 : Ref sig .tc := ⟨.hbm, 90, rfl⟩
abbrev main_call2_call0_v1 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_cst_9 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_call3_v0 : Ref sig .tc := ⟨.hbm, 107, rfl⟩
abbrev main_call3_cst : Ref sig .tc := ⟨.hbm, 108, rfl⟩
abbrev main_call3_v1 : Ref sig .tc := ⟨.hbm, 109, rfl⟩
abbrev main_call3_v2 : Ref sig .tc := ⟨.hbm, 110, rfl⟩
abbrev main_v39 : Ref sig .tc := ⟨.hbm, 111, rfl⟩
abbrev main_cst_10 : Ref sig .tc := ⟨.hbm, 112, rfl⟩
abbrev main_call4_v0 : Ref sig .tc := ⟨.hbm, 113, rfl⟩
abbrev main_call4_v1 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_cst_11 : Ref sig .tc := ⟨.hbm, 122, rfl⟩
abbrev main_v47 : Ref sig .tc := ⟨.hbm, 123, rfl⟩
abbrev main_cst_12 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_cst_13 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_cst_14 : Ref sig .tc := ⟨.hbm, 132, rfl⟩
abbrev main_call5_v0 : Ref sig .tc := ⟨.hbm, 133, rfl⟩
abbrev main_call5_v1 : Ref sig .tc := ⟨.hbm, 134, rfl⟩
abbrev main_v54 : Ref sig .tc := ⟨.hbm, 135, rfl⟩
abbrev main_cst_15 : Ref sig .tc := ⟨.hbm, 136, rfl⟩
abbrev main_v55 : Ref sig .tc := ⟨.hbm, 137, rfl⟩
abbrev main_v56 : Ref sig .tc := ⟨.hbm, 138, rfl⟩
abbrev main_values : Ref sig .tc := ⟨.hbm, 139, rfl⟩
abbrev main_indices : Ref sig .tc := ⟨.hbm, 140, rfl⟩
abbrev main_c_16 : Ref sig .tc := ⟨.hbm, 141, rfl⟩
abbrev main_v57 : Ref sig .tc := ⟨.hbm, 142, rfl⟩
abbrev main_v58 : Ref sig .tc := ⟨.hbm, 143, rfl⟩
abbrev main_c_17 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_cst_18 : Ref sig .tc := ⟨.hbm, 150, rfl⟩
abbrev main_v64 : Ref sig .tc := ⟨.hbm, 151, rfl⟩
abbrev main_cst_19 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_20 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_21 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩

abbrev nD : Nat := 1
abbrev τ : Topo := Topo.v7x

variable {F : FTy → Type} [FloatOps F]
-- ==== Proof.Consts.lean ====
/- The float constants the programs spell, as the extended reals their patterns denote, and the two named ones. -/
module

public import proofs.«01_k».proof.Defs
public import Idealize.ShloMosaic.PureOps.Ideal

@[expose] public section

noncomputable section

namespace Cert.Consts

open Idealize.ShloMosaic

theorem c21 : Ideal.ofBits .f32 0x41A80000#32 = ((21 : ℝ) : EReal) := by
  simp [Ideal.ofBits, Ideal.ieee, -EReal.coe_mul]; norm_num

theorem c336 : Ideal.ofBits .f32 0x43A80000#32 = ((336 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cTop : Ideal.ofBits .f32 0x7F800000#32 = (⊤ : EReal) := by
  simp [Ideal.ofBits, Ideal.ieee]

theorem cBot : Ideal.ofBits .f32 0xFF800000#32 = (⊥ : EReal) := by
  simp [Ideal.ofBits, Ideal.ieee]

/-- What the row variance is raised by before its root is taken: a positive real. -/
theorem cEps : ∃ r : ℝ, 0 < r ∧ Ideal.ofBits .f32 0x3727C5AC#32 = (r : EReal) := by
  refine ⟨_, ?_, by simp [Ideal.ofBits, Ideal.ieee, -EReal.coe_mul]; rfl⟩
  positivity

/-- The least a row's length is taken to be: a positive real. -/
theorem cTiny : ∃ r : ℝ, 0 < r ∧ Ideal.ofBits .f32 0x2B8CBCCC#32 = (r : EReal) := by
  refine ⟨_, ?_, by simp [Ideal.ofBits, Ideal.ieee, -EReal.coe_mul]; rfl⟩
  positivity

/-- The kernel's factor `1/21`. -/
theorem invN : Named.named (F := Ideal) (φ := .f32) Cert.KernelIdeal.κ "inv_n" 0x3D430C31#32
    = ((1 / 21 : ℝ) : EReal) := by
  simp [Named.named, Cert.KernelIdeal.κ]

/-- The kernel's factor `1/335`. -/
theorem invT1 : Named.named (F := Ideal) (φ := .f32) Cert.KernelIdeal.κ "inv_t1" 0x3B43A13E#32
    = ((1 / 335 : ℝ) : EReal) := by
  simp [Named.named, Cert.KernelIdeal.κ]

end Cert.Consts

end
-- ==== Proof.Encode.lean ====
/- One row of the problem on the extended reals: the query series, its five statistics, the projection, the layer norm and
   the scaling to unit length; and the kernel's spelling of each, equal to the problem's. -/
module

public import proofs.«01_k».proof.Proof.Consts
public import Idealize.ShloMosaic.Lib.Pointwise

@[expose] public section

noncomputable section

namespace Cert.Encode

open Idealize.ShloMosaic

/-! ## Sums of reals and of squares -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem square_nonneg (a : EReal) : 0 ≤ a * a := by
  induction a with
  | bot => simp
  | top => simp
  | coe r => exact_mod_cast mul_self_nonneg r

theorem sum_squares_nonneg {ι : Type} [Fintype ι] (f : ι → EReal) : 0 ≤ ∑ i, f i * f i :=
  Finset.sum_nonneg fun i _ => square_nonneg (f i)

/-! ## The query series and its statistics -/

/-- The mean over the channels. -/
def query (x : Fin 336 → Fin 21 → EReal) (t : Fin 336) : EReal :=
  Ideal.div (∑ n, x t n) (Ideal.ofBits .f32 0x41A80000#32)

theorem query_eq (x : Fin 336 → Fin 21 → EReal) (t : Fin 336) :
    (∑ n, x t n) * ((1 / 21 : ℝ) : EReal) = query x t := by
  rw [query, Consts.c21, Ideal.div_coe (by norm_num)]

theorem query_real (x : Fin 336 → Fin 21 → EReal) (hx : ∀ t n, ∃ r : ℝ, x t n = r) : ∃ p : Fin 336 → ℝ, query x = fun t => ↑(p t) := by
  choose f hf using hx
  refine ⟨fun t => (∑ n, f t n) * (1 / 21), funext fun t => ?_⟩
  rw [← query_eq]
  simp only [hf, sum_coe, EReal.coe_mul]

def mean (q : Fin 336 → EReal) : EReal := Ideal.div (∑ t, q t) (Ideal.ofBits .f32 0x43A80000#32)

/-- The sample standard deviation, kept away from zero. -/
def spread (q : Fin 336 → EReal) : EReal :=
  max (Ideal.ofBits .f32 0x358637BD#32)
    (Ideal.sqrt (Ideal.div (∑ t, (q t - mean q) * (q t - mean q)) ((335 : ℝ) : EReal)))

/-- The same from the sum of the squares, as the kernel takes it. -/
theorem spread_eq (p : Fin 336 → ℝ) (q : Fin 336 → EReal) (hq : q = fun t => ↑(p t)) :
    max (Ideal.sqrt (max ((∑ t, q t * q t - Ideal.ofBits .f32 0x43A80000#32 * mean q * mean q)
        * ((1 / 335 : ℝ) : EReal)) 0)) (Ideal.ofBits .f32 0x358637BD#32) = spread q := by
  have hm : mean q = (((∑ t, p t) * (1 / 336) : ℝ) : EReal) := by
    rw [mean, Consts.c336, Ideal.div_coe (by norm_num), hq, sum_coe, ← EReal.coe_mul]
  set μ : ℝ := (∑ t, p t) * (1 / 336) with hμ
  have hsum : ∑ t, p t = 336 * μ := by rw [hμ]; ring
  have hid : (∑ t, p t * p t) - 336 * μ * μ = ∑ t, (p t - μ) * (p t - μ) := by
    have : ∀ t, (p t - μ) * (p t - μ) = p t * p t - 2 * μ * p t + μ * μ := fun t => by ring
    simp only [this, Finset.sum_add_distrib, Finset.sum_sub_distrib, ← Finset.mul_sum, hsum]
    simp
    ring
  have hnn : 0 ≤ (∑ t, (p t - μ) * (p t - μ)) * (1 / 335) :=
    mul_nonneg (Finset.sum_nonneg fun t _ => mul_self_nonneg _) (by norm_num)
  have h1 : (∑ t, q t * q t - Ideal.ofBits .f32 0x43A80000#32 * mean q * mean q) * ((1 / 335 : ℝ) : EReal)
      = (((∑ t, (p t - μ) * (p t - μ)) * (1 / 335) : ℝ) : EReal) := by
    rw [hm, Consts.c336, hq, ← hid]
    simp only [← EReal.coe_mul, sum_coe, ← EReal.coe_sub]
  have h2 : Ideal.div (∑ t, (q t - mean q) * (q t - mean q)) ((335 : ℝ) : EReal)
      = (((∑ t, (p t - μ) * (p t - μ)) * (1 / 335) : ℝ) : EReal) := by
    rw [Ideal.div_coe (by norm_num), hm, hq]
    simp only [← EReal.coe_mul, sum_coe, ← EReal.coe_sub]
  have h3 : max (((∑ t, (p t - μ) * (p t - μ)) * (1 / 335) : ℝ) : EReal) 0
      = (((∑ t, (p t - μ) * (p t - μ)) * (1 / 335) : ℝ) : EReal) := max_eq_left (EReal.coe_nonneg.2 hnn)
  rw [spread, h1, h2, h3, max_comm]

/-- The five statistics of a query series. -/
def stats (q : Fin 336 → EReal) : Fin 5 → EReal :=
  ![mean q, spread q, Finset.univ.fold max ⊥ q, Finset.univ.fold min ⊤ q, q 335 - q 0]

/-! ## Projection and layer norm -/

def project (s : Fin 5 → EReal) (W : Fin 5 → Fin 64 → EReal) (b : Fin 64 → EReal) (j : Fin 64) : EReal :=
  ∑ k, s k * W k j + b j

/-- The distance from the mean of the row. -/
def centred (h : Fin 64 → EReal) (j : Fin 64) : EReal := h j - Ideal.div (∑ i, h i) (Ideal.ofBits .f32 0x42800000#32)

def rowVar (h : Fin 64 → EReal) : EReal := Ideal.div (∑ i, centred h i * centred h i) (Ideal.ofBits .f32 0x42800000#32)

def layerNorm (h : Fin 64 → EReal) (γ β : Fin 64 → EReal) (j : Fin 64) : EReal :=
  Ideal.div (centred h j) (Ideal.sqrt (rowVar h + Ideal.ofBits .f32 0x3727C5AC#32)) * γ j + β j

theorem rowVar_nonneg (h : Fin 64 → EReal) : 0 ≤ rowVar h := by
  rw [rowVar, Consts.c64, Ideal.div_coe (by norm_num)]
  exact mul_nonneg (sum_squares_nonneg _) (by exact_mod_cast (by norm_num : (0 : ℝ) ≤ 1 / 64))

/-- Multiplying by the reciprocal root of a positive number is dividing by its root. -/
theorem mul_rsqrt (a v : EReal) (hv : 0 < v) : a * Ideal.rsqrt v = Ideal.div a (Ideal.sqrt v) := by
  induction v with
  | bot => simp at hv
  | top =>
    show a * 0 = Ideal.div a ⊤
    rw [Ideal.div, if_neg EReal.top_ne_zero, EReal.inv_top]
  | coe r =>
    have hr : 0 < r := by exact_mod_cast hv
    have hs : Real.sqrt r ≠ 0 := (Real.sqrt_pos.2 hr).ne'
    rw [Ideal.rsqrt_coe, Ideal.sqrt_coe, if_neg hr.not_gt, if_neg hr.ne', if_neg hr.not_gt, Ideal.div_coe hs, one_div]

theorem layerNorm_eq (h : Fin 64 → EReal) (γ β : Fin 64 → EReal) (j : Fin 64) :
    centred h j * Ideal.rsqrt (rowVar h + Ideal.ofBits .f32 0x3727C5AC#32) * γ j + β j = layerNorm h γ β j := by
  rw [layerNorm, mul_rsqrt]
  obtain ⟨e, he, hc⟩ := Consts.cEps
  rw [hc]
  calc (0 : EReal) < (e : EReal) := by exact_mod_cast he
    _ = 0 + (e : EReal) := (zero_add _).symm
    _ ≤ rowVar h + (e : EReal) := add_le_add_left (rowVar_nonneg h) _

/-! ## Unit length and similarity -/

/-- The row over its length. -/
def unitRow (h : Fin 64 → EReal) (j : Fin 64) : EReal :=
  Ideal.div (h j) (max (Ideal.ofBits .f32 0x2B8CBCCC#32) (Ideal.sqrt (∑ i, h i * h i)))

/-- A row over its length is real: where the row is not, its length is infinite and the quotient zero. -/
theorem unitRow_real (h : Fin 64 → EReal) : ∃ u : Fin 64 → ℝ, ∀ j, unitRow h j = ↑(u j) := by
  obtain ⟨e, he, hc⟩ := Consts.cTiny
  by_cases hr : ∀ j, ∃ r : ℝ, h j = r
  · choose f hf using hr
    have hn : (0 : ℝ) ≤ ∑ i, f i * f i := Finset.sum_nonneg fun i _ => mul_self_nonneg _
    have hl : max (Ideal.ofBits .f32 0x2B8CBCCC#32) (Ideal.sqrt (∑ i, h i * h i))
        = ((max e (Real.sqrt (∑ i, f i * f i)) : ℝ) : EReal) := by
      simp only [hf, ← EReal.coe_mul, sum_coe, hc]
      rw [Ideal.sqrt_coe, if_neg hn.not_gt]
      exact (EReal.coe_strictMono.monotone.map_max).symm
    have hp : max e (Real.sqrt (∑ i, f i * f i)) ≠ 0 := (lt_of_lt_of_le he (le_max_left _ _)).ne'
    refine ⟨fun j => f j * (1 / max e (Real.sqrt (∑ i, f i * f i))), fun j => ?_⟩
    rw [unitRow, hl, Ideal.div_coe hp, hf, ← EReal.coe_mul]
  · push Not at hr
    obtain ⟨j, hj⟩ := hr
    have ht : h j * h j = ⊤ := by
      generalize h j = a at hj
      induction a with
      | bot => simp
      | top => simp
      | coe r => exact absurd rfl (hj r)
    have hs : ∑ i, h i * h i = ⊤ := by
      rw [← Finset.add_sum_erase _ _ (Finset.mem_univ j), ht]
      exact EReal.top_add_of_ne_bot
        (lt_of_lt_of_le EReal.bot_lt_zero (Finset.sum_nonneg fun i _ => square_nonneg (h i))).ne'
    refine ⟨fun _ => 0, fun j => ?_⟩
    have hm : max (Ideal.ofBits .f32 0x2B8CBCCC#32) (⊤ : EReal) = ⊤ := max_eq_right le_top
    rw [unitRow, hs, show Ideal.sqrt ⊤ = ⊤ from rfl, hm]
    simp [Ideal.div]

/-- The inner products of a unit row with the keys. -/
def similarity (u : Fin 64 → EReal) (K : Fin 5000 → Fin 64 → EReal) (j : Fin 5000) : EReal := ∑ k, u k * K j k

theorem similarity_real (u : Fin 64 → EReal) (K : Fin 5000 → Fin 64 → EReal) (hu : ∃ v : Fin 64 → ℝ, ∀ j, u j = ↑(v j))
    (hK : ∀ j k, ∃ r : ℝ, K j k = r) : ∃ s : Fin 5000 → ℝ, ∀ j, similarity u K j = ↑(s j) := by
  obtain ⟨v, hv⟩ := hu
  choose f hf using hK
  exact ⟨fun j => ∑ k, v k * f j k, fun j => by simp only [similarity, hv, hf, ← EReal.coe_mul, sum_coe]⟩

/-! ## The whole row -/

/-- Row of similarities from a row of the input and the parameters. -/
def simRow (x : Fin 336 → Fin 21 → EReal) (W : Fin 5 → Fin 64 → EReal) (b γ β : Fin 64 → EReal)
    (K : Fin 5000 → Fin 64 → EReal) : Fin 5000 → EReal :=
  similarity (unitRow (layerNorm (project (stats (query x)) W b) γ β)) K

theorem simRow_real (x : Fin 336 → Fin 21 → EReal) (W : Fin 5 → Fin 64 → EReal) (b γ β : Fin 64 → EReal)
    (K : Fin 5000 → Fin 64 → EReal) (hK : ∀ j k, ∃ r : ℝ, K j k = r) :
    ∃ s : Fin 5000 → ℝ, ∀ j, simRow x W b γ β K j = ↑(s j) :=
  similarity_real _ K (unitRow_real _) hK

end Cert.Encode

end
-- ==== Proof.TopFive.lean ====
/- The five greatest of a row of extended reals: the stable sort that lists them, the row of maxima each taken over what
   lies strictly below the one before, and why the two agree where the six greatest values are distinct. -/
module

public import Idealize.ShloMosaic.Lib.Pointwise
public import Idealize.ShloMosaic.Lib.SortFacts

@[expose] public section

noncomputable section

namespace Cert.TopFive

open Idealize.ShloMosaic

variable {n : ℕ}

/-- The place in the row of the value that stands at position `k` once the row is sorted, greatest first. -/
def place (s : Fin n → EReal) : Fin n → Fin n :=
  sortedFrom fun i j => Ideal.cmp .ogt (s i) (s j) == 1#1

theorem cmp_gt (a b : EReal) : (Ideal.cmp .ogt a b == 1#1) = decide (b < a) := by
  by_cases h : b < a <;> simp [Ideal.cmp, h]

theorem place_injective (s : Fin n → EReal) : Function.Injective (place s) := sortedFrom_injective _

theorem place_surjective (s : Fin n → EReal) : Function.Surjective (place s) := sortedFrom_surjective _

/-- Later positions of the sorted row hold no greater value. -/
theorem place_antitone (s : Fin n → EReal) {i j : Fin n} (hij : i ≤ j) : s (place s j) ≤ s (place s i) := by
  rcases hij.lt_or_eq with h | rfl
  · have := sortedFrom_noInversion (fun a b => Ideal.cmp .ogt (s a) (s b) == 1#1)
      (fun a b => Ideal.cmp .ogt (s a) (s b) == 1#1)
      (fun a b => by simp only [cmp_gt, decide_eq_true_eq, decide_eq_false_iff_not, not_lt]; exact le_of_lt)
      (fun a b h => h)
      (fun a b c => by
        simp only [cmp_gt, decide_eq_false_iff_not, not_lt]
        exact fun h1 h2 => h1.trans h2) i j h
    rw [cmp_gt, decide_eq_false_iff_not, not_lt] at this
    exact this
  · exact le_rfl

/-- The largest value below the bounds a fold of `max` meets is the fold. -/
theorem fold_max_eq (f : Fin n → EReal) (v : EReal) (hle : ∀ j, f j ≤ v) (j : Fin n) (hj : f j = v) :
    Finset.univ.fold max ⊥ f = v := by
  apply le_antisymm
  · exact (Finset.fold_max_le _).2 ⟨bot_le, fun x _ => hle x⟩
  · exact (Finset.le_fold_max _).2 (.inr ⟨j, Finset.mem_univ _, hj.ge⟩)

variable {N : ℕ} (s : Fin (N + 6) → EReal)

/-- The value at position `k` of the sorted row. -/
def value (k : Fin (N + 6)) : EReal := s (place s k)

/-- The first six values of the sorted row are distinct. -/
def Distinct : Prop := ∀ k : Fin 5, value s ⟨k.1 + 1, by omega⟩ < value s ⟨k.1, by omega⟩

/-- The maximum of the row is its first sorted value. -/
theorem max_first : Finset.univ.fold max ⊥ s = value s 0 := by
  refine fold_max_eq s _ (fun j => ?_) (place s 0) rfl
  obtain ⟨k, rfl⟩ := place_surjective s j
  exact place_antitone s (Fin.zero_le k)

variable {s}

/-- Below the value at position `k` of the sorted row lie exactly the values at later positions. -/
theorem lt_iff (h : Distinct s) (k : Fin 5) (i : Fin (N + 6)) :
    s (place s i) < value s ⟨k.1, by omega⟩ ↔ k.1 < i.1 := by
  constructor
  · intro hlt
    by_contra hk
    exact absurd (place_antitone s (show i ≤ ⟨k.1, by omega⟩ from Fin.mk_le_mk.2 (not_lt.1 hk))) (not_le.2 hlt)
  · intro hk
    exact lt_of_le_of_lt (place_antitone s (show (⟨k.1 + 1, by omega⟩ : Fin (N + 6)) ≤ i from Fin.mk_le_mk.2 hk)) (h k)

/-- The maximum over the values below the one at position `k` is the value at the next position. -/
theorem max_next (h : Distinct s) (k : Fin 5) :
    (Finset.univ.fold max ⊥ fun j => if s j < value s ⟨k.1, by omega⟩ then s j else ⊥)
      = value s ⟨k.1 + 1, by omega⟩ := by
  refine fold_max_eq _ _ (fun j => ?_) (place s ⟨k.1 + 1, by omega⟩) ?_
  · obtain ⟨i, rfl⟩ := place_surjective s j
    split
    next hlt => exact place_antitone s (Fin.mk_le_mk.2 ((lt_iff h k i).1 hlt))
    · exact bot_le
  · rw [if_pos ((lt_iff h k _).2 (by simp))]; rfl

/-- A sum over the row that keeps the values no smaller than the fifth greatest is the sum over the five greatest. -/
theorem sum_kept (h : Distinct s) (f : Fin (N + 6) → EReal) :
    ∑ j, (if value s ⟨4, by omega⟩ ≤ s j then f j else 0) = ∑ k : Fin 5, f (place s ⟨k.1, by omega⟩) := by
  have hs : ∀ i, value s ⟨4, by omega⟩ ≤ s (place s i) ↔ i.1 ≤ 4 := fun i => by
    rw [← not_lt, ← not_lt]; exact not_congr (lt_iff h 4 i)
  rw [← (show Function.Bijective (place s) from ⟨place_injective s, place_surjective s⟩).sum_comp]
  simp only [hs]
  rw [← Finset.sum_filter]
  refine (Finset.sum_bij (fun (k : Fin 5) _ => (⟨k.1, by omega⟩ : Fin (N + 6))) ?_ ?_ ?_ ?_).symm
  · intro k _; simp; omega
  · intro a _ b _ hab; simpa [Fin.ext_iff] using hab
  · intro i hi
    exact ⟨⟨i.1, by simp at hi; omega⟩, Finset.mem_univ _, rfl⟩
  · intro k _; rfl

/-! ## The six greatest of a row -/

/-- The place of the greatest value number `k`. -/
def site {n : ℕ} (hn : 6 ≤ n) (s : Fin n → EReal) (k : Fin 6) : Fin n := place s (Fin.castLE hn k)

/-- The greatest value number `k`. -/
def top {n : ℕ} (hn : 6 ≤ n) (s : Fin n → EReal) (k : Fin 6) : EReal := s (site hn s k)

/-- The six greatest values are distinct. -/
def Untied {n : ℕ} (hn : 6 ≤ n) (s : Fin n → EReal) : Prop := ∀ k : Fin 5, top hn s k.succ < top hn s k.castSucc

theorem max_top {n : ℕ} (hn : 6 ≤ n) (s : Fin n → EReal) : (Finset.univ.fold max ⊥ fun j => s j) = top hn s 0 := by
  obtain ⟨N, rfl⟩ := Nat.exists_eq_add_of_le' hn
  exact max_first s

theorem top_le {n : ℕ} (hn : 6 ≤ n) (s : Fin n → EReal) (k : Fin 6) : top hn s k ≤ top hn s 0 :=
  place_antitone s (Fin.mk_le_mk.2 (Nat.zero_le _))

/-- The greatest of the five greatest is the first. -/
theorem max_five {n : ℕ} (hn : 6 ≤ n) (s : Fin n → EReal) :
    (Finset.univ.fold max ⊥ fun k : Fin 5 => top hn s k.castSucc) = top hn s 0 :=
  fold_max_eq _ _ (fun k => top_le hn s k.castSucc) 0 rfl

theorem six : 6 ≤ 5000 := by norm_num

theorem max_below {n : ℕ} (hn : 6 ≤ n) (s : Fin n → EReal) (h : Untied hn s) (k : Fin 5) :
    (Finset.univ.fold max ⊥ fun j => if s j < top hn s k.castSucc then s j else ⊥) = top hn s k.succ := by
  obtain ⟨N, rfl⟩ := Nat.exists_eq_add_of_le' hn
  exact max_next (s := s) h k

theorem max_below_0 {n : ℕ} (hn : 6 ≤ n) (s : Fin n → EReal) (h : Untied hn s) :
    (Finset.univ.fold max ⊥ fun j => if s j < top hn s 0 then s j else ⊥) = top hn s 1 := max_below hn s h 0

theorem max_below_1 {n : ℕ} (hn : 6 ≤ n) (s : Fin n → EReal) (h : Untied hn s) :
    (Finset.univ.fold max ⊥ fun j => if s j < top hn s 1 then s j else ⊥) = top hn s 2 := max_below hn s h 1

theorem max_below_2 {n : ℕ} (hn : 6 ≤ n) (s : Fin n → EReal) (h : Untied hn s) :
    (Finset.univ.fold max ⊥ fun j => if s j < top hn s 2 then s j else ⊥) = top hn s 3 := max_below hn s h 2

theorem max_below_3 {n : ℕ} (hn : 6 ≤ n) (s : Fin n → EReal) (h : Untied hn s) :
    (Finset.univ.fold max ⊥ fun j => if s j < top hn s 3 then s j else ⊥) = top hn s 4 := max_below hn s h 3

theorem sum_top {n : ℕ} (hn : 6 ≤ n) (s : Fin n → EReal) (h : Untied hn s) (f : Fin n → EReal) :
    ∑ j, (if top hn s 4 ≤ s j then f j else 0) = ∑ k : Fin 5, f (site hn s k.castSucc) := by
  obtain ⟨N, rfl⟩ := Nat.exists_eq_add_of_le' hn
  exact sum_kept (s := s) h f

/-! ## The sorted row as the host lists it -/

theorem along_ix2 {m n : ℕ} (b : Fin m) (c k : Fin n) (h : 1 < (⟨2, ![m, n]⟩ : Shape).rank) :
    (ix2 b c : (⟨2, ![m, n]⟩ : Shape).Idx).along ⟨1, h⟩ k = ix2 b k := by
  funext a
  match a with
  | ⟨0, _⟩ => rfl
  | ⟨1, _⟩ => rfl

theorem slice_ix2 {m n k : ℕ} {α : Type} (x : (⟨2, ![m, n]⟩ : Shape).Idx → α)
    (h : (⟨2, ![m, n]⟩ : Shape).Slices (fun _ => 0) ⟨2, ![m, k]⟩) (hk : k ≤ n) (b : Fin m) (i : Fin k) :
    extractStridedSlice ⟨2, ![m, k]⟩ (fun _ => 0) x h (ix2 b i) = x (ix2 b (Fin.castLE hk i)) := by
  refine congrArg x (funext fun a => ?_)
  match a with
  | ⟨0, _⟩ => exact Fin.ext (Nat.zero_add _)
  | ⟨1, _⟩ => exact Fin.ext (Nat.zero_add _)

theorem sorted_ix2 {m n : ℕ} {β : Type} (x : FVec Ideal ⟨2, ![m, n]⟩ .f32) (y : (⟨2, ![m, n]⟩ : Shape).Idx → β)
    (b : Fin m) (c : Fin n) :
    (Host.sort2 ⟨2, ![m, n]⟩ 1 (fun l r => FloatOps.cmpfTotal .gt l.1 r.1) x y).1 (ix2 b c)
        = x (ix2 b (place (fun j => x (ix2 b j)) c))
      ∧ (Host.sort2 ⟨2, ![m, n]⟩ 1 (fun l r => FloatOps.cmpfTotal .gt l.1 r.1) x y).2 (ix2 b c)
        = y (ix2 b (place (fun j => x (ix2 b j)) c)) := by
  have h1 : 1 < (⟨2, ![m, n]⟩ : Shape).rank := Nat.one_lt_two
  have e : sortedFrom (fun k k' => FloatOps.cmpfTotal (F := Ideal) (φ := .f32) .gt
      (x ((ix2 b c : (⟨2, ![m, n]⟩ : Shape).Idx).along ⟨1, h1⟩ k))
      (x ((ix2 b c : (⟨2, ![m, n]⟩ : Shape).Idx).along ⟨1, h1⟩ k')) == 1#1) c = place (fun j => x (ix2 b j)) c := by
    unfold place
    congr 1
    exact funext fun k => funext fun k' => congrArg₂ (fun u v => Ideal.cmp .ogt (x u) (x v) == 1#1)
      (along_ix2 b c k h1) (along_ix2 b c k' h1)
  unfold Host.sort2
  rw [dif_pos h1]
  constructor
  · show x ((ix2 b c : (⟨2, ![m, n]⟩ : Shape).Idx).along ⟨1, h1⟩ (sortedFrom _ c)) = _
    rw [e]; exact congrArg x (along_ix2 b c _ h1)
  · show y ((ix2 b c : (⟨2, ![m, n]⟩ : Shape).Idx).along ⟨1, h1⟩ (sortedFrom _ c)) = _
    rw [e]; exact congrArg y (along_ix2 b c _ h1)

/-- Each element's place in its row, as a word. -/
abbrev places (m n : ℕ) : IVec ⟨2, ![m, n]⟩ 32 := fun i =>
  if hd : 1 < (⟨2, ![m, n]⟩ : Shape).rank then iotaInDim ⟨2, ![m, n]⟩ 32 ⟨1, hd⟩ i else 0#32

/-- The values of the host's list of the greatest. -/
theorem topK_value {m n k : ℕ} (x : FVec Ideal ⟨2, ![m, n]⟩ .f32)
    (h : (⟨2, ![m, n]⟩ : Shape).Slices (fun _ => 0) ⟨2, ![m, k]⟩) (hk : k ≤ n) (b : Fin m) (i : Fin k) :
    (Host.topK ⟨2, ![m, k]⟩ 1 (FloatOps.cmpfTotal .gt) x h).1 (ix2 b i)
      = x (ix2 b (place (fun j => x (ix2 b j)) (Fin.castLE hk i))) :=
  (slice_ix2 (Host.sort2 ⟨2, ![m, n]⟩ 1 (fun l r => FloatOps.cmpfTotal .gt l.1 r.1) x (places m n)).1 h hk b i).trans
    (sorted_ix2 x (places m n) b _).1

/-- The places of the host's list of the greatest, as words. -/
theorem topK_place {m n k : ℕ} (x : FVec Ideal ⟨2, ![m, n]⟩ .f32)
    (h : (⟨2, ![m, n]⟩ : Shape).Slices (fun _ => 0) ⟨2, ![m, k]⟩) (hk : k ≤ n) (b : Fin m) (i : Fin k) :
    (Host.topK ⟨2, ![m, k]⟩ 1 (FloatOps.cmpfTotal .gt) x h).2 (ix2 b i)
      = BitVec.ofNat 32 (place (fun j => x (ix2 b j)) (Fin.castLE hk i)).1 :=
  (slice_ix2 (Host.sort2 ⟨2, ![m, n]⟩ 1 (fun l r => FloatOps.cmpfTotal .gt l.1 r.1) x (places m n)).2 h hk b i).trans
    (sorted_ix2 x (places m n) b _).2

end Cert.TopFive

end
-- ==== Proof.KernelRow.lean ====
/- The kernel's body read one row at a time: each stored value at a row of the block, in terms of the row functions. -/
module

public import proofs.«01_k».proof.Proof.Gen.KernelIdeal.Frame
public import proofs.«01_k».proof.Proof.Encode
public import proofs.«01_k».proof.Proof.TopFive
public import Idealize.ShloMosaic.Lib.Pointwise

@[expose] public section

set_option maxRecDepth 16384

noncomputable section

namespace Cert.KernelRow

open Idealize.ShloMosaic Cert.KernelIdeal Cert.KernelIdeal.Gen Cert.Encode Cert.TopFive

/-! ## The statistics, the projection and the layer norm -/

theorem stats_row (x : FVec Ideal S21x336x256 .f32) (r : Fin 256) (hx : ∀ n t, ∃ a : ℝ, x (ix3 n t r) = a) (k : Fin 5) :
    k0_pay3 (F := Ideal) x (ix2 r k) = stats (query fun t n => x (ix3 n t r)) k := by
  obtain ⟨p, hp⟩ := query_real (fun t n => x (ix3 n t r)) (fun t n => hx n t)
  have hq := query_eq (fun t n => x (ix3 n t r))
  pointwise [k0_pay3]
  simp only [Consts.invN, Consts.invT1, hq, Consts.cBot, Consts.cTop]
  fin_vals k with hk
  all_goals simp only [hk, Nat.reduceSub, Nat.reduceLT, ↓reduceDIte]
  · obtain rfl : k = 0 := Fin.ext hk
    rfl
  · obtain rfl : k = 1 := Fin.ext hk
    exact spread_eq p _ hp
  · obtain rfl : k = 2 := Fin.ext hk
    rfl
  · obtain rfl : k = 3 := Fin.ext hk
    rfl
  · obtain rfl : k = 4 := Fin.ext hk
    rfl

theorem norm_row (s : FVec Ideal S256x5 .f32) (x : FVec Ideal S21x336x256 .f32) (hs : k0_pay3 (F := Ideal) x = s)
    (W : FVec Ideal S5x64 .f32) (b γ β : FVec Ideal S1x64 .f32) (r : Fin 256) (j : Fin 64) :
    k0_pay6 (F := Ideal) s W (k0_pay4 x W) (k0_pay5 x W) b γ β (ix2 r j)
      = layerNorm (project (fun k => s (ix2 r k)) (fun k j => W (ix2 k j)) fun j => b (ix2 0 j))
          (fun j => γ (ix2 0 j)) (fun j => β (ix2 0 j)) j := by
  have hp : ∀ j : Fin 64, s (ix2 r 0) * W (ix2 0 j) + s (ix2 r 1) * W (ix2 1 j) + s (ix2 r 2) * W (ix2 2 j)
      + s (ix2 r 3) * W (ix2 3 j) + s (ix2 r 4) * W (ix2 4 j) + b (ix2 0 j)
      = project (fun k => s (ix2 r k)) (fun k j => W (ix2 k j)) (fun j => b (ix2 0 j)) j := fun j => by
    rw [project, Fin.sum_univ_five]
  rw [← layerNorm_eq]
  unfold rowVar centred
  simp only [← hp]
  pointwise [k0_pay6, k0_pay4, k0_pay5, hs]

/-! ## The similarities -/

/-- A sum over 256 places as four sums over 64. -/
theorem sum_quarters (f : Fin 256 → EReal) :
    ∑ x, f x = ∑ i : Fin 64, f ⟨i.1, by omega⟩ + (∑ i : Fin 64, f ⟨64 + i.1, by omega⟩
      + (∑ i : Fin 64, f ⟨128 + i.1, by omega⟩ + ∑ i : Fin 64, f ⟨192 + i.1, by omega⟩)) := by
  rw [Fin.sum_univ_add (a := 64) (b := 192) f,
    Fin.sum_univ_add (a := 64) (b := 128) fun i : Fin 192 => f (Fin.natAdd 64 i),
    Fin.sum_univ_add (a := 64) (b := 64) fun i : Fin 128 => f (Fin.natAdd 64 (Fin.natAdd 64 i))]
  refine congrArg₂ _ rfl (congrArg₂ _ rfl (congrArg₂ _ ?_ ?_)) <;>
    refine Finset.sum_congr rfl fun i _ => congrArg f (Fin.ext ?_) <;> simp <;> omega

theorem sim_row (h h2 : FVec Ideal S256x64 .f32) (h2h : ∀ r j, h2 (ix2 r j) = h (ix2 r j) * h (ix2 r j)) (k3 : FVec Ideal S5000x256 .bf16)
    (r : Fin 256) (K : Fin 5000 → Fin 64 → EReal)
    (h0K : ∀ j (c : Fin 64), k3 (ix2 j ⟨c.1, by omega⟩) = K j c) (h1K : ∀ j (c : Fin 64), k3 (ix2 j ⟨64 + c.1, by omega⟩) = 0)
    (j : Fin 5000) :
    k0_pay8 (F := Ideal) h h2 k3 (ix2 r j) = similarity (unitRow fun j => h (ix2 r j)) K j := by
  have hu : ∀ j, Ideal.div (h (ix2 r j)) (max (Ideal.sqrt (∑ i, h (ix2 r i) * h (ix2 r i))) (Ideal.ofBits .f32 0x2B8CBCCC#32))
      = unitRow (fun j => h (ix2 r j)) j := fun j => by rw [unitRow, max_comm]
  obtain ⟨u, hur⟩ := unitRow_real fun j => h (ix2 r j)
  have h0 : ∀ j, unitRow (fun j => h (ix2 r j)) j - unitRow (fun j => h (ix2 r j)) j = 0 := fun j => by
    rw [hur, ← EReal.coe_sub, sub_self, EReal.coe_zero]
  pointwise [k0_pay8, h2h]
  simp only [hu, h0]
  rw [sum_quarters]
  have e1 : ∀ i : Fin 64, ¬ 64 + i.1 < 64 := fun i => by omega
  have e2 : ∀ i : Fin 64, ¬ 128 + i.1 < 64 := fun i => by omega
  have e3 : ∀ i : Fin 64, ¬ 128 + i.1 - 64 < 64 := fun i => by omega
  have e4 : ∀ i : Fin 64, ¬ 192 + i.1 < 64 := fun i => by omega
  have e5 : ∀ i : Fin 64, ¬ 192 + i.1 - 64 < 64 := fun i => by omega
  simp only [Fin.is_lt, e1, e2, e3, e4, e5, ↓reduceDIte, h0K, h1K, mul_zero, dite_eq_ite, ite_self, zero_mul,
    Finset.sum_const_zero, add_zero, Fin.eta]
  rfl

/-! ## The five largest, the sum of exponentials and the weighted sum -/

/-- A column read along a row. -/
theorem column_row (c : FVec Ideal S256x1 .f32) (r : Fin 256) (j : Fin 5000) :
    broadcastTo S256x5000 c broadcasts_S256x1_S256x5000 (ix2 r j) = c (ix2 r 0) := by
  pointwise

/-- The values below a bound, the others replaced by minus infinity. -/
theorem below_row (a c : FVec Ideal S256x5000 .f32) (r : Fin 256) (j : Fin 5000) :
    select (cmpf .olt a c) a (broadcast S256x5000 (Scalar.ofBits .f32 0xFF800000#32)) (ix2 r j)
      = if a (ix2 r j) < c (ix2 r j) then a (ix2 r j) else ⊥ := by
  pointwise
  rw [Consts.cBot]

/-- A row's maximum. -/
theorem max_row (a : FVec Ideal S256x5000 .f32) (r : Fin 256) :
    shapeCast S256x1 (multiReduction .maximumf [1] S256 a 0xFF800000#32 reduces_S256x5000_S256 (.inl rfl) rfl)
      shapeCasts_S256_S256x1 (ix2 r 0) = Finset.univ.fold max ⊥ fun j => a (ix2 r j) := by
  pointwise
  rw [Consts.cBot]

/-- The maximum of a row's values below a bound. -/
theorem next_row (a : FVec Ideal S256x5000 .f32) (c : FVec Ideal S256x1 .f32) (r : Fin 256) (s : Fin 5000 → EReal)
    (hs : ∀ j, a (ix2 r j) = s j) (v : EReal) (hc : c (ix2 r 0) = v) :
    shapeCast S256x1 (multiReduction .maximumf [1] S256
        (select (cmpf .olt a (broadcastTo S256x5000 c broadcasts_S256x1_S256x5000)) a
          (broadcast S256x5000 (Scalar.ofBits .f32 0xFF800000#32)))
        0xFF800000#32 reduces_S256x5000_S256 (.inl rfl) rfl) shapeCasts_S256_S256x1 (ix2 r 0)
      = Finset.univ.fold max ⊥ fun j => if s j < v then s j else ⊥ := by
  rw [max_row]
  exact Finset.fold_congr fun j _ => by rw [below_row, column_row, hs, hc]

theorem four_row (a b c d : FVec Ideal S256x1 .f32) (r : Fin 256) :
    addf (addf (addf (broadcast S256x1 (Scalar.ofBits .f32 0x3F800000#32)) (exp (subf b a))) (exp (subf c a))) (exp (subf d a)) (ix2 r 0)
      = 1 + Ideal.exp (b (ix2 r 0) - a (ix2 r 0)) + Ideal.exp (c (ix2 r 0) - a (ix2 r 0))
        + Ideal.exp (d (ix2 r 0) - a (ix2 r 0)) := by
  pointwise

theorem weigh_row (a : FVec Ideal S256x5000 .f32) (c0 c5 e q : FVec Ideal S256x1 .f32) (v2 : FVec Ideal S5000x192 .bf16) (r : Fin 256) (d : Fin 96) :
    mulf (addf
        (extractStridedSlice S256x96 ![0, 0] (matmul dot_S256x5000_S5000x192_S256x192_1_0_0_1_n_n none
          (truncf .bf16 (select (cmpf .oge a (broadcastTo S256x5000 c5 broadcasts_S256x1_S256x5000))
            (exp (subf a (broadcastTo S256x5000 c0 broadcasts_S256x1_S256x5000)))
            (broadcast S256x5000 (Scalar.ofBits .f32 0x00000000#32))) bitsLt_bf16_f32)
          (shapeCast S5000x192 v2 shapeCasts_S5000x192_S5000x192) (constant S256x192 .f32 0x00000000#32)) slices_S256x192_o0_0_S256x96)
        (extractStridedSlice S256x96 ![0, 96] (matmul dot_S256x5000_S5000x192_S256x192_1_0_0_1_n_n none
          (truncf .bf16 (select (cmpf .oge a (broadcastTo S256x5000 c5 broadcasts_S256x1_S256x5000))
            (exp (subf a (broadcastTo S256x5000 c0 broadcasts_S256x1_S256x5000)))
            (broadcast S256x5000 (Scalar.ofBits .f32 0x00000000#32))) bitsLt_bf16_f32)
          (shapeCast S5000x192 v2 shapeCasts_S5000x192_S5000x192) (constant S256x192 .f32 0x00000000#32)) slices_S256x192_o0_96_S256x96))
      (broadcastTo S256x96 (divf q (addf e (exp (subf c5 c0)))) broadcasts_S256x1_S256x96) (ix2 r d)
    = (∑ j : Fin 5000, (if c5 (ix2 r 0) ≤ a (ix2 r j) then Ideal.exp (a (ix2 r j) - c0 (ix2 r 0)) else 0) * v2 (ix2 j ⟨d.1, by omega⟩)
      + ∑ j : Fin 5000, (if c5 (ix2 r 0) ≤ a (ix2 r j) then Ideal.exp (a (ix2 r j) - c0 (ix2 r 0)) else 0) * v2 (ix2 j ⟨96 + d.1, by omega⟩))
      * Ideal.div (q (ix2 r 0)) (e (ix2 r 0) + Ideal.exp (c5 (ix2 r 0) - c0 (ix2 r 0))) := by
  pointwise

section top

variable (h h2 : FVec Ideal S256x64 .f32) (k3 : FVec Ideal S5000x256 .bf16) (r : Fin 256) (s : Fin 5000 → EReal)
  (hs : ∀ j : Fin 5000, k0_pay8 (F := Ideal) h h2 k3 (ix2 r j) = s j) (hd : Untied six s)

include hs

theorem top0_row : k0_pay9 (F := Ideal) h h2 k3 (ix2 r 0) = top six s 0 := by
  rw [← max_top six s]
  pointwise [k0_pay9, hs]
  simp only [Consts.cBot]

theorem below10_row (v : EReal) (hv : k0_pay9 (F := Ideal) h h2 k3 (ix2 r 0) = v) :
    k0_pay10 (F := Ideal) h h2 k3 (ix2 r 0) = Finset.univ.fold max ⊥ fun j => if s j < v then s j else ⊥ := by
  unfold k0_pay10
  exact next_row _ _ r s hs _ hv

theorem below11_row (v : EReal) (hv : k0_pay10 (F := Ideal) h h2 k3 (ix2 r 0) = v) :
    k0_pay11 (F := Ideal) h h2 k3 (ix2 r 0) = Finset.univ.fold max ⊥ fun j => if s j < v then s j else ⊥ := by
  unfold k0_pay11
  exact next_row _ _ r s hs _ hv

theorem below12_row (v : EReal) (hv : k0_pay11 (F := Ideal) h h2 k3 (ix2 r 0) = v) :
    k0_pay12 (F := Ideal) h h2 k3 (ix2 r 0) = Finset.univ.fold max ⊥ fun j => if s j < v then s j else ⊥ := by
  unfold k0_pay12
  exact next_row _ _ r s hs _ hv

include hd

theorem top1_row : k0_pay10 (F := Ideal) h h2 k3 (ix2 r 0) = top six s 1 := by
  rw [below10_row h h2 k3 r s hs _ (top0_row h h2 k3 r s hs)]
  exact max_below_0 six s hd

theorem top2_row : k0_pay11 (F := Ideal) h h2 k3 (ix2 r 0) = top six s 2 := by
  rw [below11_row h h2 k3 r s hs _ (top1_row h h2 k3 r s hs hd)]
  exact max_below_1 six s hd

theorem top3_row : k0_pay12 (F := Ideal) h h2 k3 (ix2 r 0) = top six s 3 := by
  rw [below12_row h h2 k3 r s hs _ (top2_row h h2 k3 r s hs hd)]
  exact max_below_2 six s hd

theorem sum4_row : k0_pay13 (F := Ideal) h h2 k3 (ix2 r 0)
    = 1 + Ideal.exp (top six s 1 - top six s 0) + Ideal.exp (top six s 2 - top six s 0)
      + Ideal.exp (top six s 3 - top six s 0) := by
  unfold k0_pay13
  exact (four_row _ _ _ _ r).trans (by
    rw [top0_row h h2 k3 r s hs, top1_row h h2 k3 r s hs hd, top2_row h h2 k3 r s hs hd, top3_row h h2 k3 r s hs hd])

theorem weighted_row (v2 : FVec Ideal S5000x192 .bf16) (thr : FVec Ideal S256x1 .f32) (d : Fin 96) :
    k0_pay2 (F := Ideal) (k0_pay8 h h2 k3) (k0_pay9 h h2 k3) (k0_pay13 h h2 k3) (k0_pay14 h h2 k3)
        (Scalar.ofBits .f32 0xFF800000#32) v2 thr (ix2 r d)
      = (∑ k : Fin 5, Ideal.exp (top six s k.castSucc - top six s 0) * v2 (ix2 (site six s k.castSucc) ⟨d.1, by omega⟩)
        + ∑ k : Fin 5, Ideal.exp (top six s k.castSucc - top six s 0) * v2 (ix2 (site six s k.castSucc) ⟨96 + d.1, by omega⟩))
        * Ideal.div (k0_pay1 (k0_pay9 h h2 k3) thr (ix2 r 0))
          (1 + Ideal.exp (top six s 1 - top six s 0) + Ideal.exp (top six s 2 - top six s 0)
            + Ideal.exp (top six s 3 - top six s 0) + Ideal.exp (top six s 4 - top six s 0)) := by
  have h5 := next_row (k0_pay8 h h2 k3) (k0_pay12 h h2 k3) r s hs _ (top3_row h h2 k3 r s hs hd)
  rw [max_below_3 six s hd] at h5
  unfold k0_pay2 k0_pay14
  refine (weigh_row _ _ _ _ _ _ r d).trans ?_
  rw [h5, top0_row h h2 k3 r s hs, sum4_row h h2 k3 r s hs hd]
  simp only [hs, ite_mul, zero_mul, sum_top six s hd]
  rfl

end top

theorem bit_row (a thr : FVec Ideal S256x1 .f32) (r : Fin 256) :
    k0_pay1 (F := Ideal) a thr (ix2 r 0) = if thr (ix2 r 0) < a (ix2 r 0) then 1 else 0 := by
  pointwise [k0_pay1]
  show (((BitVec.setWidth 32 (BitVec.ofBool (decide (thr (ix2 r 0) < a (ix2 r 0))))).toInt : ℝ) : EReal) = _
  by_cases hb : thr (ix2 r 0) < a (ix2 r 0)
  · rw [decide_eq_true hb, if_pos hb]; simp
  · rw [decide_eq_false hb, if_neg hb]; simp

end Cert.KernelRow

end
-- ==== Proof.Weights.lean ====
/- The weighted sum of the five values: dividing the sum by the total weight is weighting by the normalised weights. -/
module

public import proofs.«01_k».proof.Proof.Encode

@[expose] public section

noncomputable section

namespace Cert.Weights

open Idealize.ShloMosaic Cert.Encode

/-- The five values weighted by the softmax of `t`, zeroed unless `valid` is one. -/
def blend (t w : Fin 5 → EReal) (valid : EReal) : EReal :=
  (∑ k, w k * Ideal.div (Ideal.exp (t k - t 0)) (∑ i, Ideal.exp (t i - t 0))) * valid

theorem blend_eq (t w : Fin 5 → EReal) (ht : ∃ a : Fin 5 → ℝ, ∀ k, t k = ↑(a k)) (hw : ∃ a : Fin 5 → ℝ, ∀ k, w k = ↑(a k))
    (valid : EReal) (hv : ∃ a : ℝ, valid = a) :
    (∑ k, Ideal.exp (t k - t 0) * w k + ∑ k, Ideal.exp (t k - t 0) * 0)
      * Ideal.div valid (1 + Ideal.exp (t 1 - t 0) + Ideal.exp (t 2 - t 0) + Ideal.exp (t 3 - t 0) + Ideal.exp (t 4 - t 0))
    = blend t w valid := by
  obtain ⟨a, ha⟩ := ht
  obtain ⟨c, hc⟩ := hw
  obtain ⟨v, rfl⟩ := hv
  have he : ∀ k, Ideal.exp (t k - t 0) = ((Real.exp (a k - a 0) : ℝ) : EReal) := fun k => by
    rw [ha, ha, ← EReal.coe_sub, Ideal.exp_coe]
  have hpos : (0 : ℝ) < ∑ k, Real.exp (a k - a 0) :=
    Finset.sum_pos (fun k _ => Real.exp_pos _) ⟨0, Finset.mem_univ _⟩
  have hsum : (1 : EReal) + Ideal.exp (t 1 - t 0) + Ideal.exp (t 2 - t 0) + Ideal.exp (t 3 - t 0) + Ideal.exp (t 4 - t 0)
      = ((∑ k, Real.exp (a k - a 0) : ℝ) : EReal) := by
    rw [he, he, he, he, ← EReal.coe_one, ← EReal.coe_add, ← EReal.coe_add, ← EReal.coe_add, ← EReal.coe_add, Fin.sum_univ_five,
      sub_self, Real.exp_zero]
  rw [hsum, blend]
  simp only [he, hc, mul_zero, Finset.sum_const_zero, add_zero, sum_coe, Ideal.div_coe hpos.ne', ← EReal.coe_mul]
  refine congrArg _ ?_
  rw [Finset.sum_mul, Finset.sum_mul]
  exact Finset.sum_congr rfl fun k _ => by ring

end Cert.Weights

end
-- ==== Proof.BodyRow.lean ====
/- A row of what the body stores, given what its blocks hold on that row. -/
module

public import proofs.«01_k».proof.Proof.KernelRow
public import proofs.«01_k».proof.Proof.Weights

@[expose] public section

set_option maxRecDepth 16384

noncomputable section

namespace Cert.BodyRow

open Idealize.ShloMosaic Cert.KernelIdeal Cert.KernelIdeal.Gen Cert.Encode Cert.TopFive Cert.Weights Cert.KernelRow

variable (h h2 : FVec Ideal S256x64 .f32) (k3 : FVec Ideal S5000x256 .bf16) (v2 : FVec Ideal S5000x192 .bf16)
  (thr : FVec Ideal S256x1 .f32) (r : Fin 256) (s : Fin 5000 → EReal)
  (hs : ∀ j, k0_pay8 (F := Ideal) h h2 k3 (ix2 r j) = s j)

include hs

theorem bit_at (θ : EReal) (hθ : thr (ix2 r 0) = θ) :
    k0_pay1 (F := Ideal) (k0_pay9 h h2 k3) thr (ix2 r 0) = if θ < top six s 0 then 1 else 0 := by
  rw [bit_row, hθ, top0_row h h2 k3 r s hs]

theorem out_at (hd : Untied six s) (hr : ∃ a : Fin 5000 → ℝ, ∀ j, s j = ↑(a j)) (U : Fin 5000 → Fin 96 → EReal)
    (hU : ∀ j d, ∃ a : ℝ, U j d = a)
    (h0 : ∀ j (d : Fin 96), v2 (ix2 j ⟨d.1, by omega⟩) = U j d) (h1 : ∀ j (d : Fin 96), v2 (ix2 j ⟨96 + d.1, by omega⟩) = 0)
    (θ : EReal) (hθ : thr (ix2 r 0) = θ) (d : Fin 96) :
    k0_pay2 (F := Ideal) (k0_pay8 h h2 k3) (k0_pay9 h h2 k3) (k0_pay13 h h2 k3) (k0_pay14 h h2 k3)
        (Scalar.ofBits .f32 0xFF800000#32) v2 thr (ix2 r d)
      = blend (fun k => top six s k.castSucc) (fun k => U (site six s k.castSucc) d) (if θ < top six s 0 then 1 else 0) := by
  rw [weighted_row h h2 k3 r s hs hd v2 thr d, bit_at h h2 k3 thr r s hs θ hθ]
  simp only [h0, h1]
  obtain ⟨a, ha⟩ := hr
  refine blend_eq (fun k : Fin 5 => top six s k.castSucc) _ ⟨fun k => a (site six s k.castSucc), fun k => ha _⟩ ?_ _ ?_
  · choose f hf using hU
    exact ⟨fun k => f (site six s k.castSucc) d, fun k => hf _ _⟩
  · split
    · exact ⟨1, rfl⟩
    · exact ⟨0, rfl⟩

end Cert.BodyRow

namespace Cert.BodyRow

open Idealize.ShloMosaic Cert.KernelIdeal Cert.KernelIdeal.Gen Cert.Encode Cert.TopFive Cert.Weights Cert.KernelRow

/-- The similarities on a row. -/
theorem sim_at (x : FVec Ideal S21x336x256 .f32) (W : FVec Ideal S5x64 .f32) (b γ β : FVec Ideal S1x64 .f32)
    (k3 : FVec Ideal S5000x256 .bf16) (r : Fin 256) (X : Fin 336 → Fin 21 → EReal) (hX : ∀ t n, ∃ a : ℝ, X t n = a)
    (hx : ∀ n t, x (ix3 n t r) = X t n) (W' : Fin 5 → Fin 64 → EReal) (hW : ∀ k j, W (ix2 k j) = W' k j)
    (b' γ' β' : Fin 64 → EReal) (hb : ∀ j, b (ix2 0 j) = b' j) (hγ : ∀ j, γ (ix2 0 j) = γ' j) (hβ : ∀ j, β (ix2 0 j) = β' j)
    (K : Fin 5000 → Fin 64 → EReal)
    (h0K : ∀ j (c : Fin 64), k3 (ix2 j ⟨c.1, by omega⟩) = K j c) (h1K : ∀ j (c : Fin 64), k3 (ix2 j ⟨64 + c.1, by omega⟩) = 0)
    (j : Fin 5000) :
    k0_pay8 (F := Ideal) (k0_pay6 (k0_pay3 x) W (k0_pay4 x W) (k0_pay5 x W) b γ β)
        (k0_pay7 (k0_pay3 x) W (k0_pay4 x W) (k0_pay5 x W) b γ β) k3 (ix2 r j)
      = simRow X W' b' γ' β' K j := by
  refine (sim_row _ _ (fun r j => ?_) k3 r K h0K h1K j).trans ?_
  · unfold k0_pay7
    rfl
  · have hs : ∀ k, k0_pay3 (F := Ideal) x (ix2 r k) = stats (query X) k := fun k =>
      (stats_row x r (fun n t => by rw [hx]; exact hX t n) k).trans
        (congrFun (congrArg stats (congrArg query (funext fun t => funext fun n => hx n t))) k)
    have hn : (fun j => k0_pay6 (F := Ideal) (k0_pay3 x) W (k0_pay4 x W) (k0_pay5 x W) b γ β (ix2 r j))
        = layerNorm (project (stats (query X)) W' b') γ' β' := by
      funext j
      rw [norm_row (k0_pay3 x) x rfl W b γ β r j]
      simp only [hs, hW, hb, hγ, hβ]
    rw [hn]
    rfl

end Cert.BodyRow

end
-- ==== Proof.RefRow.lean ====
/- The reference read one row at a time: its similarity row and its two results. -/
module

public import proofs.«01_k».proof.Proof.Gen.ReferenceIdeal.Run
public import proofs.«01_k».proof.Proof.Encode
public import proofs.«01_k».proof.Proof.TopFive
public import proofs.«01_k».proof.Proof.Weights
public import Idealize.ShloMosaic.Lib.Pointwise
public import Idealize.ShloMosaic.Lib.Tactic.CleanTypes

@[expose] public section

set_option maxRecDepth 16384

noncomputable section

namespace Cert.RefRow

open Idealize.ShloMosaic Idealize.SL.Sem Cert.ReferenceIdeal Cert.ReferenceIdeal.Gen Cert.ReferenceIdeal.Value Cert.Encode Cert.TopFive Cert.Weights

variable (V0 : Valuation τ sig (Elt Ideal))

/-- The window of channel values at batch element `b`. -/
abbrev windowOf (b : Fin 4096) (t : Fin 336) (n : Fin 21) : EReal := (V0 (Proc.devRef .tc main_arg0) : FVec Ideal S4096x336x21 .f32) (ix3 b t n)

abbrev weightOf (k : Fin 5) (j : Fin 64) : EReal := (V0 (Proc.devRef .tc main_arg1) : FVec Ideal S5x64 .f32) (ix2 k j)

abbrev biasOf (j : Fin 64) : EReal := (V0 (Proc.devRef .tc main_arg2) : FVec Ideal S64 .f32) (ix1 j)

abbrev gainOf (j : Fin 64) : EReal := (V0 (Proc.devRef .tc main_arg3) : FVec Ideal S64 .f32) (ix1 j)

abbrev shiftOf (j : Fin 64) : EReal := (V0 (Proc.devRef .tc main_arg4) : FVec Ideal S64 .f32) (ix1 j)

abbrev keyOf (j : Fin 5000) (k : Fin 64) : EReal := (V0 (Proc.devRef .tc main_arg5) : FVec Ideal S5000x64 .f32) (ix2 j k)

theorem query_row (b : Fin 4096) (t : Fin 336) : res_main_v2 V0 (ix2 b t) = query (windowOf V0 b) t := by
  unfold res_main_v2
  clean_types
  pointwise
  rfl

theorem count_row : res_main_call0_call0_v8 V0 ix0 = ((335 : ℝ) : EReal) := by
  unfold res_main_call0_call0_v8
  clean_types
  pointwise
  show Ideal.ofBits .f32 0x43A80000#32 - (((1#32 : BitVec 32).toInt : ℝ) : EReal) = _
  rw [Consts.c336, show ((1#32 : BitVec 32).toInt : ℝ) = 1 by simp, ← EReal.coe_sub]
  norm_num

theorem centre_row (b : Fin 4096) (t : Fin 336) :
    res_main_call0_call0_v5 V0 (ix2 b t) = query (windowOf V0 b) t - mean (query (windowOf V0 b)) := by
  have hq := query_row V0 b
  unfold res_main_call0_call0_v5
  clean_types
  pointwise [hq]
  rfl

theorem project_row (b : Fin 4096) (j : Fin 64) :
    res_main_v20 V0 (ix2 b j) = project (stats (query (windowOf V0 b))) (weightOf V0) (biasOf V0) j := by
  have hq := query_row V0 b
  have hc := centre_row V0 b
  have hn := count_row V0
  have hp : (0 : EReal) < ((335 : ℝ) : EReal) := by exact_mod_cast (by norm_num : (0 : ℝ) < 335)
  unfold res_main_v20
  clean_types
  pointwise [hq, hc, hn]
  rw [project, Fin.sum_univ_five, Fin.sum_univ_five]
  simp only [if_pos hp, Consts.cBot, Consts.cTop]
  rfl

theorem count64_row : res_main_call2_v8 V0 ix0 = Ideal.ofBits .f32 0x42800000#32 := by
  unfold res_main_call2_v8
  clean_types
  pointwise
  show Ideal.ofBits .f32 0x42800000#32 - (((0#32 : BitVec 32).toInt : ℝ) : EReal) = _
  rw [show ((0#32 : BitVec 32).toInt : ℝ) = 0 by simp, EReal.coe_zero, sub_zero]

/-- The projected row. -/
abbrev hidden (b : Fin 4096) : Fin 64 → EReal := project (stats (query (windowOf V0 b))) (weightOf V0) (biasOf V0)

theorem centre64_row (b : Fin 4096) (j : Fin 64) : res_main_call2_v5 V0 (ix2 b j) = centred (hidden V0 b) j := by
  have hq := project_row V0 b
  unfold res_main_call2_v5
  clean_types
  pointwise [hq]
  rfl

theorem norm_row (b : Fin 4096) (j : Fin 64) :
    res_main_v38 V0 (ix2 b j) = layerNorm (hidden V0 b) (gainOf V0) (shiftOf V0) j := by
  have hq := project_row V0 b
  have hc := centre64_row V0 b
  have hn := count64_row V0
  have hp : (0 : EReal) < Ideal.ofBits .f32 0x42800000#32 := by
    rw [Consts.c64]; exact_mod_cast (by norm_num : (0 : ℝ) < 64)
  unfold res_main_v38
  clean_types
  pointwise [hq, hc, hn]
  simp only [if_pos hp]
  rfl

/-- The similarities of batch element `b` to every key. -/
abbrev simOf (b : Fin 4096) : Fin 5000 → EReal :=
  simRow (windowOf V0 b) (weightOf V0) (biasOf V0) (gainOf V0) (shiftOf V0) (keyOf V0)

theorem sim_row (b : Fin 4096) (j : Fin 5000) : res_main_v44 V0 (ix2 b j) = simOf V0 b j := by
  have hn := norm_row V0 b
  unfold res_main_v44
  clean_types
  pointwise [hn]
  rfl

/-! ## The results over the similarities -/

/-- The similarity a batch element has to exceed. -/
def threshold (raw : EReal) (bit : BitVec 1) : EReal :=
  max (Ideal.ofBits .f32 0x3DCCCCCD#32)
    (Ideal.div 1 (1 + Ideal.exp (-raw))
      - ((bit.toNat : ℝ) : EReal) * Ideal.ofBits .f32 0x3E4CCCCD#32)

theorem threshold_row (raw : FVec Ideal S_ .f32) (bits : IVec S4096 1) (b : Fin 4096) :
    (maximumf (broadcastInDim S4096 ![] bcast_S_S4096 (id (constant S_ .f32 0x3DCCCCCD#32))) (subf (broadcastInDim S4096 ![] bcast_S_S4096 (Host.divf (constant S_ .f32 0x3F800000#32) (addf (constant S_ .f32 0x3F800000#32) (Host.exp (Host.negf raw))))) (mulf (uitofp .f32 bits) (broadcastInDim S4096 ![] bcast_S_S4096 (constant S_ .f32 0x3E4CCCCD#32)))) : FVec Ideal S4096 .f32) (ix1 b)
      = threshold (raw ix0) (bits (ix1 b)) := by
  pointwise
  rfl

/-- Rows of a table taken at a table of row numbers. -/
theorem gather_rows {N R C D : ℕ} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → EReal) (idx : IVec ⟨3, ![R, C, 1]⟩ 32) (r : Fin R) (c : Fin C) (d : Fin D) :
    Host.gather (si := ⟨3, ![R, C, 1]⟩) (t := ⟨3, ![R, C, D]⟩) ⟨[2], [0], [], [], [0], 2, ![1, D], wf⟩ x idx (ix3 r c d)
      = x (ix2 ⟨min (idx (ix3 r c 0)).toInt.toNat (N - 1), by omega⟩ d) := by
  generalize hD : (⟨[2], [0], [], [], [0], 2, ![1, D], wf⟩ : GatherDims ⟨2, ![N, D]⟩ ⟨3, ![R, C, 1]⟩ ⟨3, ![R, C, D]⟩) = D'
  have hm : D'.startIndexMap = [0] := by rw [← hD]
  have hb : D'.operandBatchingDims = [] := by rw [← hD]
  have hk : D'.collapsedSliceDims = [0] := by rw [← hD]
  unfold Host.gather
  congr 1
  funext a
  refine Fin.ext ?_
  show D'.start (ix3 r c d) idx a + D'.batchCoord (ix3 r c d) a + D'.offCoord (ix3 r c d) a = _
  rw [GatherDims.batchCoord_eq_zero _ _ _ (by rw [hb]; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by rw [hk]; exact List.mem_singleton.mpr rfl))]
    subst hD
    simp only [Nat.add_zero]
    unfold GatherDims.start
    rw [dif_pos (List.mem_singleton.mpr rfl)]
    refine congrArg (fun i => min (idx i).toInt.toNat (N - 1)) (funext fun b => Fin.ext ?_)
    match b with
    | ⟨0, _⟩ => rfl
    | ⟨1, _⟩ => rfl
    | ⟨2, _⟩ => rfl
  · subst hD
    unfold GatherDims.start
    rw [dif_neg (by simp)]
    simp only [Nat.zero_add, Nat.add_zero]
    unfold GatherDims.offCoord
    rw [dif_pos ((GatherDims.mem_sKept _ _).mpr ⟨by simp, by simp⟩)]
    rfl

theorem values_row (b : Fin 4096) (i : Fin 5) :
    res_main_values V0 (ix2 b i) = top six (simOf V0 b) i.castSucc := by
  unfold res_main_values
  refine (topK_value (res_main_v44 V0) _ (by norm_num) b i).trans ?_
  rw [sim_row, show (fun j => res_main_v44 V0 (ix2 b j)) = simOf V0 b from funext fun j => sim_row V0 b j]
  rfl

theorem indices_row (b : Fin 4096) (i : Fin 5) :
    res_main_indices V0 (ix2 b i) = BitVec.ofNat 32 (site six (simOf V0 b) i.castSucc).1 := by
  unfold res_main_indices
  refine (topK_place (res_main_v44 V0) _ (by norm_num) b i).trans ?_
  rw [show (fun j => res_main_v44 V0 (ix2 b j)) = simOf V0 b from funext fun j => sim_row V0 b j]
  rfl

theorem max_host (a : FVec Ideal S4096x5000 .f32) (b : Fin 4096) :
    (Host.reduce FloatOps.maximumf a (constant S_ .f32 0xFF800000#32) reducesTo_S4096x5000_S4096_d1 h_S_ : FVec Ideal S4096 .f32)
      (ix1 b) = Finset.univ.fold max ⊥ fun j => a (ix2 b j) := by
  pointwise
  rw [Consts.cBot]

theorem best_row (b : Fin 4096) :
    (Host.reduce FloatOps.maximumf (res_main_v44 V0) (constant S_ .f32 0xFF800000#32) reducesTo_S4096x5000_S4096_d1 h_S_ : FVec Ideal S4096 .f32)
      (ix1 b) = top six (simOf V0 b) 0 := by
  refine (max_host _ b).trans ?_
  rw [← max_top six (simOf V0 b), show (fun j => res_main_v44 V0 (ix2 b j)) = fun j => simOf V0 b j from funext fun j => sim_row V0 b j]

theorem weight_row (b : Fin 4096) (i : Fin 5) :
    res_main_v70 V0 (ix2 b i) = Ideal.exp (top six (simOf V0 b) i.castSucc - top six (simOf V0 b) 0) := by
  have hv := values_row V0 b
  have hm := max_five six (simOf V0 b)
  unfold res_main_v70
  clean_types
  pointwise [hv]
  simp only [Consts.cBot, hm, max_bot_left]

theorem word_int (p : Fin 5000) : (BitVec.ofNat 32 p.1).toInt = p.1 := by
  have h : (BitVec.ofNat 32 p.1).toNat = p.1 := by
    rw [BitVec.toNat_ofNat]; exact Nat.mod_eq_of_lt (by omega)
  rw [BitVec.toInt_eq_toNat_of_lt (by rw [h]; omega), h]

abbrev valueOf (j : Fin 5000) (d : Fin 96) : EReal := (V0 (Proc.devRef .tc main_arg6) : FVec Ideal S5000x96 .f32) (ix2 j d)

/-- Whether batch element `b` exceeds its threshold. -/
def valid (s raw : EReal) (bit : BitVec 1) : EReal := if threshold raw bit < s then 1 else 0

/-- The retrieved value, as the reference composes it. -/
def retrieved (vals : FVec Ideal S5000x96 .f32) (idx : IVec S4096x5 32) (e : FVec Ideal S4096x5 .f32) : FVec Ideal S4096x5x96 .f32 :=
  mulf (Host.gather gather_S5000x96_S4096x5x1_S4096x5x96_2_0_n_n_0_2_196 vals (broadcastInDim S4096x5x1 ![0, 1] bcast_S4096x5_S4096x5x1_0_1 (select (cmpi .slt idx (broadcastInDim S4096x5 ![] bcast_S_S4096x5 (constantI S_ 32 0#32))) (addi idx (broadcastInDim S4096x5 ![] bcast_S_S4096x5 (constantI S_ 32 5000#32))) idx))) (broadcastInDim S4096x5x96 ![0, 1, 2] bcast_S4096x5x1_S4096x5x96_0_1_2 (broadcastInDim S4096x5x1 ![0, 1] bcast_S4096x5_S4096x5x1_0_1 (Host.divf e (broadcastInDim S4096x5 ![0, 1] bcast_S4096x1_S4096x5_0_1 (broadcastInDim S4096x1 ![0] bcast_S4096_S4096x1_0 (Host.reduceAdd e (constant S_ .f32 0x00000000#32) reducesTo_S4096x5_S4096_d1 h_S_))))))

theorem word_row (idx : IVec S4096x5 32) (b : Fin 4096) (i : Fin 5) (p : Fin 5000) (hp : idx (ix2 b i) = BitVec.ofNat 32 p.1) :
    broadcastInDim S4096x5x1 ![0, 1] bcast_S4096x5_S4096x5x1_0_1 (select (cmpi .slt idx (broadcastInDim S4096x5 ![] bcast_S_S4096x5 (constantI S_ 32 0#32))) (addi idx (broadcastInDim S4096x5 ![] bcast_S_S4096x5 (constantI S_ 32 5000#32))) idx) (ix3 b i 0)
      = BitVec.ofNat 32 p.1 := by
  pointwise [hp]
  have h : (BitVec.ofNat 32 p.1).slt 0#32 = false := by
    rw [BitVec.slt, word_int]
    simp
  show (if BitVec.ofBool ((BitVec.ofNat 32 p.1).slt 0#32) = 1#1 then _ else _) = _
  rw [h]
  rfl

theorem retrieved_row (vals : FVec Ideal S5000x96 .f32) (idx : IVec S4096x5 32) (e : FVec Ideal S4096x5 .f32) (b : Fin 4096)
    (p : Fin 5 → Fin 5000) (hp : ∀ i, idx (ix2 b i) = BitVec.ofNat 32 (p i).1) (i : Fin 5) (d : Fin 96) :
    retrieved vals idx e (ix3 b i d) = vals (ix2 (p i) d) * Ideal.div (e (ix2 b i)) (∑ k, e (ix2 b k)) := by
  have hg : Host.gather gather_S5000x96_S4096x5x1_S4096x5x96_2_0_n_n_0_2_196 vals (broadcastInDim S4096x5x1 ![0, 1] bcast_S4096x5_S4096x5x1_0_1 (select (cmpi .slt idx (broadcastInDim S4096x5 ![] bcast_S_S4096x5 (constantI S_ 32 0#32))) (addi idx (broadcastInDim S4096x5 ![] bcast_S_S4096x5 (constantI S_ 32 5000#32))) idx)) (ix3 b i d)
      = vals (ix2 (p i) d) := by
    refine (gather_rows (by norm_num) _ vals _ b i d).trans (congrArg (fun j => vals (ix2 j d)) (Fin.ext ?_))
    show min (BitVec.toInt _).toNat (5000 - 1) = _
    rw [word_row idx b i (p i) (hp i)]
    rw [word_int, Int.toNat_natCast]
    omega
  unfold retrieved
  generalize Host.gather gather_S5000x96_S4096x5x1_S4096x5x96_2_0_n_n_0_2_196 vals _ = g at hg ⊢
  pointwise [hg]

theorem greater_row (a t : FVec Ideal S4096 .f32) (b : Fin 4096) :
    cmpf .ogt a t (ix1 b) = BitVec.ofBool (decide (t (ix1 b) < a (ix1 b))) := by
  pointwise

/-- The reference's second result: whether each batch element exceeds its threshold. -/
theorem bit_row (b : Fin 4096) :
    (cmpf .ogt (Host.reduce FloatOps.maximumf (res_main_v44 V0) (constant S_ .f32 0xFF800000#32) reducesTo_S4096x5000_S4096_d1 h_S_) (maximumf (broadcastInDim S4096 ![] bcast_S_S4096 (id (constant S_ .f32 0x3DCCCCCD#32))) (subf (broadcastInDim S4096 ![] bcast_S_S4096 (Host.divf (constant S_ .f32 0x3F800000#32) (addf (constant S_ .f32 0x3F800000#32) (Host.exp (Host.negf (V0 (Proc.devRef .tc main_arg7))))))) (mulf (uitofp .f32 (V0 (Proc.devRef .tc main_arg8))) (broadcastInDim S4096 ![] bcast_S_S4096 (constant S_ .f32 0x3E4CCCCD#32))))) : IVec S4096 1) (ix1 b)
      = BitVec.ofBool (decide (threshold ((V0 (Proc.devRef .tc main_arg7) : FVec Ideal S_ .f32) ix0)
          ((V0 (Proc.devRef .tc main_arg8) : IVec S4096 1) (ix1 b)) < top six (simOf V0 b) 0)) := by
  refine (greater_row _ _ b).trans ?_
  rw [best_row V0 b, threshold_row _ _ b]

/-- A comparison's bit as a number. -/
theorem bit_value (a c : EReal) :
    (FloatOps.uitofp (F := Ideal) .f32 (BitVec.ofBool (decide (a < c))) : EReal) = if a < c then 1 else 0 := by
  show (((BitVec.ofBool (decide (a < c))).toNat : ℝ) : EReal) = _
  by_cases hb : a < c
  · rw [decide_eq_true hb, if_pos hb]; simp
  · rw [decide_eq_false hb, if_neg hb]; simp

/-- The reference's first result at batch element `b` and column `d`. -/
theorem out_row (b : Fin 4096) (d : Fin 96) :
    (mulf (Host.reduceAdd (mulf (Host.gather gather_S5000x96_S4096x5x1_S4096x5x96_2_0_n_n_0_2_196 (V0 (Proc.devRef .tc main_arg6)) (broadcastInDim S4096x5x1 ![0, 1] bcast_S4096x5_S4096x5x1_0_1 (select (cmpi .slt (res_main_indices V0) (broadcastInDim S4096x5 ![] bcast_S_S4096x5 (constantI S_ 32 0#32))) (addi (res_main_indices V0) (broadcastInDim S4096x5 ![] bcast_S_S4096x5 (constantI S_ 32 5000#32))) (res_main_indices V0)))) (broadcastInDim S4096x5x96 ![0, 1, 2] bcast_S4096x5x1_S4096x5x96_0_1_2 (broadcastInDim S4096x5x1 ![0, 1] bcast_S4096x5_S4096x5x1_0_1 (Host.divf (res_main_v70 V0) (broadcastInDim S4096x5 ![0, 1] bcast_S4096x1_S4096x5_0_1 (broadcastInDim S4096x1 ![0] bcast_S4096_S4096x1_0 (Host.reduceAdd (res_main_v70 V0) (constant S_ .f32 0x00000000#32) reducesTo_S4096x5_S4096_d1 h_S_))))))) (constant S_ .f32 0x00000000#32) reducesTo_S4096x5x96_S4096x96_d1 h_S_) (broadcastInDim S4096x96 ![0, 1] bcast_S4096x1_S4096x96_0_1 (broadcastInDim S4096x1 ![0] bcast_S4096_S4096x1_0 (uitofp .f32 (cmpf .ogt (Host.reduce FloatOps.maximumf (res_main_v44 V0) (constant S_ .f32 0xFF800000#32) reducesTo_S4096x5000_S4096_d1 h_S_) (maximumf (broadcastInDim S4096 ![] bcast_S_S4096 (id (constant S_ .f32 0x3DCCCCCD#32))) (subf (broadcastInDim S4096 ![] bcast_S_S4096 (Host.divf (constant S_ .f32 0x3F800000#32) (addf (constant S_ .f32 0x3F800000#32) (Host.exp (Host.negf (V0 (Proc.devRef .tc main_arg7))))))) (mulf (uitofp .f32 (V0 (Proc.devRef .tc main_arg8))) (broadcastInDim S4096 ![] bcast_S_S4096 (constant S_ .f32 0x3E4CCCCD#32))))))))) : FVec Ideal S4096x96 .f32) (ix2 b d)
      = blend (fun k => top six (simOf V0 b) k.castSucc) (fun k => valueOf V0 (site six (simOf V0 b) k.castSucc) d)
          (valid (top six (simOf V0 b) 0) ((V0 (Proc.devRef .tc main_arg7) : FVec Ideal S_ .f32) ix0)
            ((V0 (Proc.devRef .tc main_arg8) : IVec S4096 1) (ix1 b))) := by
  have hr := retrieved_row (V0 (Proc.devRef .tc main_arg6)) (res_main_indices V0) (res_main_v70 V0) b
    (fun k => site six (simOf V0 b) k.castSucc) (indices_row V0 b)
  have hw := weight_row V0 b
  have hb := bit_row V0 b
  simp only [retrieved] at hr
  generalize (mulf (Host.gather gather_S5000x96_S4096x5x1_S4096x5x96_2_0_n_n_0_2_196 (V0 (Proc.devRef .tc main_arg6)) _) _ : FVec Ideal S4096x5x96 .f32) = g at hr ⊢
  generalize (cmpf .ogt (Host.reduce FloatOps.maximumf (res_main_v44 V0) (constant S_ .f32 0xFF800000#32) reducesTo_S4096x5000_S4096_d1 h_S_) _ : IVec S4096 1) = q at hb ⊢
  pointwise [hr, hw, hb]
  rw [blend, valid]
  refine congrArg₂ (· * ·) rfl ?_
  exact bit_value _ _

end Cert.RefRow

end
-- ==== Proof.Operands.lean ====
module

public import proofs.«01_k».proof.Proof.Gen.KernelIdeal.Frame
public import proofs.«01_k».proof.Proof.RefRow
public import Idealize.ShloMosaic.Lib.Pointwise
public import Idealize.ShloMosaic.Lib.Pipeline.ValueKit
public import Idealize.ShloMosaic.Lib.Claim
public import Idealize.ShloMosaic.Lib.StableHlo.ReadAt

/-! What each block of the kernel holds, read at an index, in terms of the argument arrays. -/

set_option maxRecDepth 16384

@[expose] public noncomputable section

open Idealize.ShloMosaic Idealize.ShloMosaic.TcCoe Idealize.SL.Sem
open Idealize.ShloMosaic.Pipeline (Dat)

namespace Cert.Operands

open Cert.KernelIdeal Cert.KernelIdeal.Gen

variable (m : (ℓ : Loc nD τ sig) → Buf (Elt Ideal) ℓ) (c : Dev nD)

/-- Where every window's block sits at grid point `t`. -/
theorem places : ∀ t : Fin cfg0.N,
    win0_0.index t = ![0, 0, t.1] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![t.1, 0] ∧
    win0_8.index t = ![t.1, 0] ∧ win0_9.index t = ![t.1, 0] :=
  (by decide +kernel : ∀ t : Fin grid0.N, _)

theorem window_block (t : Fin cfg0.N) (n : Fin 21) (u : Fin 336) (r : Fin 256) (b : Fin 4096) (hb : b.1 = t.1 * 256 + r.1) :
    iblk m c 0 t (ix3 n u r) = V m c main_v0 (ix3 n u b) := by
  blk_ext [iblk, places t, hb]

theorem weight_block (t : Fin cfg0.N) (k : Fin 5) (j : Fin 64) :
    iblk m c 1 t (ix2 k j) = m ((c : Thread nD τ).loc main_arg1) (ix2 k j) := by
  blk_ext [iblk, V, places t]

theorem bias_block (t : Fin cfg0.N) (j : Fin 64) :
    iblk m c 2 t (ix2 0 j) = V m c main_v22 (ix2 0 j) := by
  blk_ext [iblk, places t]

theorem key_block (t : Fin cfg0.N) (j : Fin 5000) (k : Fin 256) :
    iblk m c 5 t (ix2 j k) = V m c main_v16 (ix2 j k) := by
  blk_ext [iblk, places t]

theorem gain_block (t : Fin cfg0.N) (j : Fin 64) :
    iblk m c 3 t (ix2 0 j) = V m c main_v23 (ix2 0 j) := by
  blk_ext [iblk, places t]

theorem shift_block (t : Fin cfg0.N) (j : Fin 64) :
    iblk m c 4 t (ix2 0 j) = V m c main_v24 (ix2 0 j) := by
  blk_ext [iblk, places t]

theorem value_block (t : Fin cfg0.N) (j : Fin 5000) (d : Fin 192) :
    iblk m c 6 t (ix2 j d) = V m c main_v21 (ix2 j d) := by
  blk_ext [iblk, places t]

theorem threshold_block (t : Fin cfg0.N) (r : Fin 256) (b : Fin 4096) (hb : b.1 = t.1 * 256 + r.1) :
    iblk m c 7 t (ix2 r 0) = V m c main_v11 (ix2 b 0) := by
  blk_ext [iblk, places t, hb]

theorem window_entry (n : Fin 21) (u : Fin 336) (b : Fin 4096) :
    V m c main_v0 (ix3 n u b) = m ((c : Thread nD τ).loc main_arg0) (ix3 b u n) := by
  unfold V V0
  simp only [hostOps0, hostOps0_1, hostOps0_2, List.flatten_cons, List.flatten_nil, List.append_nil, List.cons_append, List.nil_append]
  after_reads_at

theorem bias_entry (j : Fin 64) :
    V m c main_v22 (ix2 0 j) = m ((c : Thread nD τ).loc main_arg2) (ix1 j) := by
  unfold V V0
  simp only [hostOps0, hostOps0_1, hostOps0_2, List.flatten_cons, List.flatten_nil, List.append_nil, List.cons_append, List.nil_append]
  after_reads_at

theorem gain_entry (j : Fin 64) :
    V m c main_v23 (ix2 0 j) = m ((c : Thread nD τ).loc main_arg3) (ix1 j) := by
  unfold V V0
  simp only [hostOps0, hostOps0_1, hostOps0_2, List.flatten_cons, List.flatten_nil, List.append_nil, List.cons_append, List.nil_append]
  after_reads_at

theorem shift_entry (j : Fin 64) :
    V m c main_v24 (ix2 0 j) = m ((c : Thread nD τ).loc main_arg4) (ix1 j) := by
  unfold V V0
  simp only [hostOps0, hostOps0_1, hostOps0_2, List.flatten_cons, List.flatten_nil, List.append_nil, List.cons_append, List.nil_append]
  after_reads_at

theorem key_entry (K : FVec Ideal S5000x64 .f32) (hK : m ((c : Thread nD τ).loc main_arg5) = K) (j : Fin 5000) (k : Fin 64) :
    (V m c main_v16 : FVec Ideal S5000x256 .bf16) (ix2 j ⟨k.1, by omega⟩) = K (ix2 j k) := by
  unfold V V0
  simp only [hostOps0, hostOps0_1, hostOps0_2, List.flatten_cons, List.flatten_nil, List.append_nil, List.cons_append, List.nil_append]
  after_reads_at
  simp only [StableHlo.unary_result']
  after_reads_at
  exact congrFun hK _

theorem key_rest (K : FVec Ideal S5000x64 .f32) (hK : m ((c : Thread nD τ).loc main_arg5) = K) (j : Fin 5000) (k : Fin 64) :
    (V m c main_v16 : FVec Ideal S5000x256 .bf16) (ix2 j ⟨64 + k.1, by omega⟩) = K (ix2 j k) - K (ix2 j k) := by
  unfold V V0
  simp only [hostOps0, hostOps0_1, hostOps0_2, List.flatten_cons, List.flatten_nil, List.append_nil, List.cons_append, List.nil_append]
  after_reads_at
  simp only [StableHlo.unary_result']
  after_reads_at
  subst hK
  rfl

theorem value_entry (U : FVec Ideal S5000x96 .f32) (hU : m ((c : Thread nD τ).loc main_arg6) = U) (j : Fin 5000) (d : Fin 96) :
    (V m c main_v21 : FVec Ideal S5000x192 .bf16) (ix2 j ⟨d.1, by omega⟩) = U (ix2 j d) := by
  unfold V V0
  simp only [hostOps0, hostOps0_1, hostOps0_2, List.flatten_cons, List.flatten_nil, List.append_nil, List.cons_append, List.nil_append]
  after_reads_at
  exact congrFun hU _

theorem value_rest (U : FVec Ideal S5000x96 .f32) (hU : m ((c : Thread nD τ).loc main_arg6) = U) (j : Fin 5000) (d : Fin 96) :
    (V m c main_v21 : FVec Ideal S5000x192 .bf16) (ix2 j ⟨96 + d.1, by omega⟩) = U (ix2 j d) - U (ix2 j d) := by
  unfold V V0
  simp only [hostOps0, hostOps0_1, hostOps0_2, List.flatten_cons, List.flatten_nil, List.append_nil, List.cons_append, List.nil_append]
  after_reads_at
  subst hU
  rfl

theorem threshold_entry (raw : FVec Ideal S_ .f32) (hraw : m ((c : Thread nD τ).loc main_arg7) = raw) (last : IVec S4096 1) (hlast : m ((c : Thread nD τ).loc main_arg8) = last) (b : Fin 4096) :
    (V m c main_v11 : FVec Ideal S4096x1 .f32) (ix2 b 0) = RefRow.threshold (raw ix0) (last (ix1 b)) := by
  unfold V V0
  simp only [hostOps0, hostOps0_1, hostOps0_2, List.flatten_cons, List.flatten_nil, List.append_nil, List.cons_append, List.nil_append]
  after_reads_at
  subst hraw hlast
  rfl

end Cert.Operands
-- ==== Proof.PreRow.lean ====
/- What the precondition says of the arguments: finite windows, keys and values, and six distinct greatest similarities. -/
module

public import proofs.«01_k».proof.Defs
public import proofs.«01_k».proof.Proof.Gen.Pre_finite_and_untied
public import proofs.«01_k».proof.Proof.RefRow

@[expose] public section

set_option maxRecDepth 16384

noncomputable section

namespace Cert.PreRow

open Idealize.ShloMosaic Idealize.SL.Sem Cert.ReferenceIdeal Cert.ReferenceIdeal.Value Cert.Encode Cert.TopFive Cert.RefRow

variable (V0 : Valuation τ sig (Elt Ideal))

/-- The precondition's four arrays of bits at the arguments. -/
abbrev bits := Cert.Pre_finite_and_untied.fn (F := Ideal) (V0 (Proc.devRef .tc main_arg0)) (V0 (Proc.devRef .tc main_arg1))
  (V0 (Proc.devRef .tc main_arg2)) (V0 (Proc.devRef .tc main_arg3)) (V0 (Proc.devRef .tc main_arg4)) (V0 (Proc.devRef .tc main_arg5))
  (V0 (Proc.devRef .tc main_arg6)) (V0 (Proc.devRef .tc main_arg7)) (V0 (Proc.devRef .tc main_arg8))

theorem bits_untied : (bits V0).2.2.2 = (Cert.Pre_finite_and_untied.fn_part3 (F := Ideal)
    (Host.topK Cert.Pre_finite_and_untied.S4096x6 1 (FloatOps.cmpfTotal .gt) (res_main_v44 V0) Cert.Pre_finite_and_untied.Gen.sliceFits_S4096x5000_S4096x6).1
    (fun _ => 0#1) (fun _ => 0#1) (fun _ => 0#1)).2.2.2 := rfl

/-- A true bit's condition holds. -/
theorem of_bit {p : Prop} [Decidable p] (h : BitVec.ofBool (decide p) = 1#1) : p := by
  by_contra hp
  rw [decide_eq_false hp] at h
  simp at h

theorem untied_row (a : FVec Ideal S4096x5000 .f32) (s : Fin 5000 → EReal) (b : Fin 4096) (hs : ∀ j, a (ix2 b j) = s j)
    (h : (Cert.Pre_finite_and_untied.fn_part3 (F := Ideal)
      (Host.topK Cert.Pre_finite_and_untied.S4096x6 1 (FloatOps.cmpfTotal .gt) a Cert.Pre_finite_and_untied.Gen.sliceFits_S4096x5000_S4096x6).1
      (fun _ => 0#1) (fun _ => 0#1) (fun _ => 0#1)).2.2.2 = fun _ => 1#1) : Untied six s := by
  have hv : ∀ i : Fin 6, (Host.topK Cert.Pre_finite_and_untied.S4096x6 1 (FloatOps.cmpfTotal .gt) a
      Cert.Pre_finite_and_untied.Gen.sliceFits_S4096x5000_S4096x6).1 (ix2 b i) = top six s i := fun i => by
    refine (topK_value a _ six b i).trans ?_
    rw [hs, show (fun j => a (ix2 b j)) = s from funext hs]
    rfl
  intro k
  have hk := congrFun h (ix2 b k)
  generalize (Host.topK Cert.Pre_finite_and_untied.S4096x6 1 (FloatOps.cmpfTotal .gt) a
      Cert.Pre_finite_and_untied.Gen.sliceFits_S4096x5000_S4096x6).1 = v at hv hk
  simp only [Cert.Pre_finite_and_untied.fn_part3] at hk
  pointwise [hv] at hk
  have hlt := of_bit hk
  rwa [show (⟨1 + k.1, by omega⟩ : Fin 6) = k.succ from Fin.ext (by simp [Nat.add_comm])] at hlt

/-- A comparison below infinity that comes out true makes the number real. -/
theorem real_of_bit (a : EReal) (h : BitVec.ofBool (decide (max a (-a) < Ideal.ofBits .f32 0x7F800000#32)) = 1#1) :
    ∃ r : ℝ, a = r := by
  have hlt : max a (-a) < ⊤ := Consts.cTop ▸ of_bit h
  induction a with
  | bot => simp at hlt
  | top => simp at hlt
  | coe r => exact ⟨r, rfl⟩

variable {V0}

theorem window_real (h : (bits V0).1 = fun _ => 1#1) (b : Fin 4096) (t : Fin 336) (n : Fin 21) : ∃ r : ℝ, windowOf V0 b t n = r :=
  real_of_bit _ (congrFun h (ix3 b t n))

theorem key_real (h : (bits V0).2.1 = fun _ => 1#1) (j : Fin 5000) (k : Fin 64) : ∃ r : ℝ, keyOf V0 j k = r :=
  real_of_bit _ (congrFun h (ix2 j k))

theorem value_real (h : (bits V0).2.2.1 = fun _ => 1#1) (j : Fin 5000) (d : Fin 96) : ∃ r : ℝ, valueOf V0 j d = r :=
  real_of_bit _ (congrFun h (ix2 j d))

theorem sim_untied (h : (bits V0).2.2.2 = fun _ => 1#1) (b : Fin 4096) : Untied six (simOf V0 b) :=
  untied_row (res_main_v44 V0) _ b (sim_row V0 b) ((bits_untied V0).symm.trans h)

end Cert.PreRow

end
-- ==== Proof.Blocks.lean ====
/- The result arrays after the run. -/
module

public import proofs.«01_k».proof.Proof.BodyRow
public import proofs.«01_k».proof.Proof.Operands
public import proofs.«01_k».proof.Proof.PreRow

set_option maxRecDepth 16384

@[expose] public noncomputable section

open Idealize.ShloMosaic Idealize.ShloMosaic.TcCoe Idealize.SL.Sem
open Idealize.ShloMosaic.Pipeline (Dat)

namespace Cert.Blocks

open Cert.KernelIdeal Cert.KernelIdeal.Gen Cert.Encode Cert.TopFive Cert.Weights Cert.Operands

theorem zero3 : (![0, 0, 0] : Fin S21x336x256.rank → Nat) = fun _ => 0 := by decide
theorem zero2 : (![0, 0] : Fin 2 → Nat) = fun _ => 0 := by decide

/-- The stored rows, spelt over the blocks. -/
theorem hidden_eq (x0 : Vec Ideal S21x336x256 .f32) (x1 : Vec Ideal S5x64 .f32) (x2 x3 x4 : Vec Ideal S1x64 .f32)
    (x5 : Vec Ideal S5000x256 .bf16) (x6 : Vec Ideal S5000x192 .bf16) (x7 : Vec Ideal S256x1 .f32) :
    k0_pay18 x0 x1 x2 x3 x4 x5 x6 x7 = k0_pay6 (k0_pay3 x0) x1 (k0_pay4 x0 x1) (k0_pay5 x0 x1) x2 x3 x4 := by
  unfold k0_pay18 k0_pay17 k0_pay16 k0_pay15
  rw [View.ld_unit_zero zero3, View.ld_unit_zero (S := S5x64) zero2]
  iterate 3 rw [View.ld_unit_zero (S := S1x64) zero2]

theorem hidden_sq_eq (x0 : Vec Ideal S21x336x256 .f32) (x1 : Vec Ideal S5x64 .f32) (x2 x3 x4 : Vec Ideal S1x64 .f32)
    (x5 : Vec Ideal S5000x256 .bf16) (x6 : Vec Ideal S5000x192 .bf16) (x7 : Vec Ideal S256x1 .f32) :
    k0_pay19 x0 x1 x2 x3 x4 x5 x6 x7 = k0_pay7 (k0_pay3 x0) x1 (k0_pay4 x0 x1) (k0_pay5 x0 x1) x2 x3 x4 := by
  unfold k0_pay19 k0_pay17 k0_pay16 k0_pay15
  rw [View.ld_unit_zero zero3, View.ld_unit_zero (S := S5x64) zero2]
  iterate 3 rw [View.ld_unit_zero (S := S1x64) zero2]

theorem best_eq (x0 : Vec Ideal S21x336x256 .f32) (x1 : Vec Ideal S5x64 .f32) (x2 x3 x4 : Vec Ideal S1x64 .f32)
    (x5 : Vec Ideal S5000x256 .bf16) (x6 : Vec Ideal S5000x192 .bf16) (x7 : Vec Ideal S256x1 .f32) :
    k0_pay20 x0 x1 x2 x3 x4 x5 x6 x7 = k0_pay9 (k0_pay18 x0 x1 x2 x3 x4 x5 x6 x7) (k0_pay19 x0 x1 x2 x3 x4 x5 x6 x7) x5 := by
  unfold k0_pay20
  rw [View.ld_unit_zero (S := S5000x256) zero2]

theorem sub_self_real (a : EReal) (h : ∃ r : ℝ, a = r) : a - a = 0 := by
  obtain ⟨r, rfl⟩ := h
  rw [← EReal.coe_sub, sub_self]; rfl

open Cert.RefRow Cert.PreRow

variable (m : (ℓ : Loc nD τ sig) → Buf (Elt Ideal) ℓ) (c : Dev nD)
  (V0 : Valuation Cert.ReferenceIdeal.τ Cert.ReferenceIdeal.sig (Elt Ideal))

/-- The two programs start from the same arguments. -/
structure Same : Prop where
  a0 : m ((c : Thread nD τ).loc main_arg0) = (V0 (Proc.devRef .tc Cert.ReferenceIdeal.main_arg0) : FVec Ideal S4096x336x21 .f32)
  a1 : m ((c : Thread nD τ).loc main_arg1) = (V0 (Proc.devRef .tc Cert.ReferenceIdeal.main_arg1) : FVec Ideal S5x64 .f32)
  a2 : m ((c : Thread nD τ).loc main_arg2) = (V0 (Proc.devRef .tc Cert.ReferenceIdeal.main_arg2) : FVec Ideal S64 .f32)
  a3 : m ((c : Thread nD τ).loc main_arg3) = (V0 (Proc.devRef .tc Cert.ReferenceIdeal.main_arg3) : FVec Ideal S64 .f32)
  a4 : m ((c : Thread nD τ).loc main_arg4) = (V0 (Proc.devRef .tc Cert.ReferenceIdeal.main_arg4) : FVec Ideal S64 .f32)
  a5 : m ((c : Thread nD τ).loc main_arg5) = (V0 (Proc.devRef .tc Cert.ReferenceIdeal.main_arg5) : FVec Ideal S5000x64 .f32)
  a6 : m ((c : Thread nD τ).loc main_arg6) = (V0 (Proc.devRef .tc Cert.ReferenceIdeal.main_arg6) : FVec Ideal S5000x96 .f32)
  a7 : m ((c : Thread nD τ).loc main_arg7) = (V0 (Proc.devRef .tc Cert.ReferenceIdeal.main_arg7) : FVec Ideal S_ .f32)
  a8 : m ((c : Thread nD τ).loc main_arg8) = (V0 (Proc.devRef .tc Cert.ReferenceIdeal.main_arg8) : IVec S4096 1)

variable {m c V0}

/-- The row's similarities, as the body has them, are the reference's. -/
theorem sim_block (e : Same m c V0) (hp0 : (bits V0).1 = fun _ => 1#1) (hp1 : (bits V0).2.1 = fun _ => 1#1)
    (t : Fin cfg0.N) (r : Fin 256) (b : Fin 4096) (hb : b.1 = t.1 * 256 + r.1) (j : Fin 5000) :
    k0_pay8 (F := Ideal)
      (k0_pay18 (iblk m c 0 t) (iblk m c 1 t) (iblk m c 2 t) (iblk m c 3 t) (iblk m c 4 t) (iblk m c 5 t) (iblk m c 6 t) (iblk m c 7 t))
      (k0_pay19 (iblk m c 0 t) (iblk m c 1 t) (iblk m c 2 t) (iblk m c 3 t) (iblk m c 4 t) (iblk m c 5 t) (iblk m c 6 t) (iblk m c 7 t))
      (iblk m c 5 t) (ix2 r j) = simOf V0 b j := by
  rw [hidden_eq, hidden_sq_eq]
  exact BodyRow.sim_at (iblk m c 0 t) (iblk m c 1 t) (iblk m c 2 t) (iblk m c 3 t) (iblk m c 4 t) (iblk m c 5 t) r
    (windowOf V0 b) (fun u n => window_real hp0 b u n)
    (fun n u => (window_block m c t n u r b hb).trans ((window_entry m c n u b).trans (congrFun e.a0 _)))
    (weightOf V0) (fun k j => (weight_block m c t k j).trans (congrFun e.a1 _))
    (biasOf V0) (gainOf V0) (shiftOf V0)
    (fun j => (bias_block m c t j).trans ((bias_entry m c j).trans (congrFun e.a2 _)))
    (fun j => (gain_block m c t j).trans ((gain_entry m c j).trans (congrFun e.a3 _)))
    (fun j => (shift_block m c t j).trans ((shift_entry m c j).trans (congrFun e.a4 _)))
    (keyOf V0) (fun j k => (key_block m c t j _).trans (key_entry m c _ e.a5 j k))
    (fun j k => (key_block m c t j _).trans ((key_rest m c _ e.a5 j k).trans (sub_self_real _ (key_real hp1 j k)))) j

theorem out_place (t : Fin cfg0.N) (r : Fin 256) (d : Fin 96) (b : Fin 4096) (hb : b.1 = t.1 * 256 + r.1) (G : FVec Ideal S4096x96 .f32) :
    G (((cfg0.win 8).blk t).view.emb (ix2 r d)) = G (ix2 b d) := by
  blk_ext [Operands.places t, hb]

theorem bit_place (t : Fin cfg0.N) (r : Fin 256) (b : Fin 4096) (hb : b.1 = t.1 * 256 + r.1) (G : FVec Ideal S4096x1 .f32) :
    G (((cfg0.win 9).blk t).view.emb (ix2 r 0)) = G (ix2 b 0) := by
  blk_ext [Operands.places t, hb]

theorem final8 (e : Same m c V0) (hp0 : (bits V0).1 = fun _ => 1#1) (hp1 : (bits V0).2.1 = fun _ => 1#1)
    (hp2 : (bits V0).2.2.1 = fun _ => 1#1) (hp3 : (bits V0).2.2.2 = fun _ => 1#1) (G : FVec Ideal S4096x96 .f32)
    (hG : ∀ b d, G (ix2 b d) = blend (fun k => top six (simOf V0 b) k.castSucc) (fun k => valueOf V0 (site six (simOf V0 b) k.castSucc) d)
          (valid (top six (simOf V0 b) 0) ((V0 (Proc.devRef .tc Cert.ReferenceIdeal.main_arg7) : FVec Ideal S_ .f32) ix0)
            ((V0 (Proc.devRef .tc Cert.ReferenceIdeal.main_arg8) : IVec S4096 1) (ix1 b)))) :
    (dats m 0 c).arrAt 8 (cfgs 0).N = G := by
  refine (dats m 0 c).arrAt_eq_of_covers 8 _ (by decide +kernel) fun t _ y => ?_
  blk_simp
  rw [after0_8]
  frame_out
  obtain ⟨r, d, rfl⟩ : ∃ (r : Fin 256) (d : Fin 96), y = ix2 r d := ⟨y 0, y 1, by ext a; fin_cases a <;> rfl⟩
  have ht : t.1 < 16 := t.2
  have hb : t.1 * 256 + r.1 < 4096 := by omega
  rw [best_eq]
  refine Eq.trans (BodyRow.out_at _ _ _ (iblk m c 6 t) (iblk m c 7 t) r (simOf V0 ⟨t.1 * 256 + r.1, hb⟩)
    (fun j => sim_block e hp0 hp1 t r ⟨t.1 * 256 + r.1, hb⟩ rfl j) (sim_untied hp3 _)
    (simRow_real _ _ _ _ _ _ (key_real hp1)) (valueOf V0) (value_real hp2)
    (fun j d => (value_block m c t j _).trans (value_entry m c _ e.a6 j d))
    (fun j d => (value_block m c t j _).trans ((value_rest m c _ e.a6 j d).trans (sub_self_real _ (value_real hp2 j d))))
    _ ((threshold_block m c t r ⟨t.1 * 256 + r.1, hb⟩ rfl).trans (threshold_entry m c _ e.a7 _ e.a8 _)) d) ?_
  refine (hG ⟨t.1 * 256 + r.1, hb⟩ d).symm.trans (out_place t r d ⟨t.1 * 256 + r.1, hb⟩ rfl G).symm

theorem final9 (e : Same m c V0) (hp0 : (bits V0).1 = fun _ => 1#1) (hp1 : (bits V0).2.1 = fun _ => 1#1) (G : FVec Ideal S4096x1 .f32)
    (hG : ∀ b, G (ix2 b 0) = valid (top six (simOf V0 b) 0) ((V0 (Proc.devRef .tc Cert.ReferenceIdeal.main_arg7) : FVec Ideal S_ .f32) ix0)
            ((V0 (Proc.devRef .tc Cert.ReferenceIdeal.main_arg8) : IVec S4096 1) (ix1 b))) :
    (dats m 0 c).arrAt 9 (cfgs 0).N = G := by
  refine (dats m 0 c).arrAt_eq_of_covers 9 _ (by decide +kernel) fun t _ y => ?_
  blk_simp
  rw [after0_9]
  frame_out
  obtain ⟨r, d, rfl⟩ : ∃ (r : Fin 256) (d : Fin 1), y = ix2 r d := ⟨y 0, y 1, by ext a; fin_cases a <;> rfl⟩
  obtain rfl : d = 0 := Subsingleton.elim _ _
  have ht : t.1 < 16 := t.2
  have hb : t.1 * 256 + r.1 < 4096 := by omega
  rw [best_eq]
  refine Eq.trans (BodyRow.bit_at _ _ _ (iblk m c 7 t) r (simOf V0 ⟨t.1 * 256 + r.1, hb⟩)
    (fun j => sim_block e hp0 hp1 t r ⟨t.1 * 256 + r.1, hb⟩ rfl j)
    _ ((threshold_block m c t r ⟨t.1 * 256 + r.1, hb⟩ rfl).trans (threshold_entry m c _ e.a7 _ e.a8 _))) ?_
  exact (hG ⟨t.1 * 256 + r.1, hb⟩).symm.trans (bit_place t r ⟨t.1 * 256 + r.1, hb⟩ rfl G).symm

end Cert.Blocks
-- ==== Proof.Claims.lean ====
/- The claims: the frames, the named constants, and the equality of the results. -/
module

public import proofs.«01_k».proof.Defs
public import proofs.«01_k».proof.Proof.Blocks
public import Idealize.ShloMosaic.Lib.StableHlo.ReadAt
public import proofs.«01_k».proof.Proof.Gen.Kernel.Frame
public import proofs.«01_k».proof.Proof.Gen.ReferenceIdeal.Run
public import Idealize.ShloMosaic.Lib.Quiescent
public import Idealize.ShloMosaic.Lib.Tactic
public import Idealize.ShloMosaic.Lib.Claim

set_option maxRecDepth 16384

@[expose] public noncomputable section

namespace Cert.Claims

open Idealize.ShloMosaic Idealize.ShloMosaic.TcCoe Idealize.SL.Sem Cert.RefRow Cert.PreRow Cert.Blocks

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_and_untied := fun m ρ _ => Cert.KernelIdeal.Gen.frame m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_ri_pre : Cert.quiescent_ReferenceIdeal_pre_finite_and_untied := fun m ρ _ => frame_ri m ρ trivial

theorem preserves : Cert.preserves_Kernel_KernelIdeal :=
  ⟨IdealRules.named_const.statement Cert.KernelIdeal.κ "inv_n" .f32 0x3D430C31#32 ((1 / 21 : ℝ) : EReal) rfl,
    IdealRules.named_const.statement Cert.KernelIdeal.κ "inv_t1" .f32 0x3B43A13E#32 ((1 / 335 : ℝ) : EReal) rfl⟩

section tail

open Cert.KernelIdeal Cert.KernelIdeal.Gen

theorem tail_row (m : (ℓ : Loc nD τ sig) → Buf (Elt Ideal) ℓ) (c : Dev nD) (G : FVec Ideal S4096x1 .f32)
    (hG : (dats m 0 c).arrAt 9 (cfgs 0).N = G) (b : Fin 4096) :
    (Pipeline.afterTail₀ cfgs (dats m) 0 (V0 m) [hostOps1] c main_v28 : IVec S4096 1) (ix1 b)
      = BitVec.ofBool (decide (Ideal.ofBits .f32 0x3F000000#32 < G (ix2 b 0))) := by
  unfold Pipeline.afterTail₀
  simp only [hostOps1, List.flatten_cons, List.flatten_nil, List.append_nil, List.cons_append, List.nil_append]
  after_reads_at
  rw [show Pipeline.withArrays (cfgs 0).spec c (V0 m c) (fun w => (dats m 0 c).arrAt w (cfgs 0).N) (Proc.tc.devRef main_v25_1) = G from
    (Pipeline.withArrays_arr (cfgs 0).spec launch0.win.arr_inj c (V0 m c) (fun w => (dats m 0 c).arrAt w (cfgs 0).N) 9).trans hG]

end tail

/-- The stored zero or one is above a half exactly when it is one. -/
theorem half_lt_valid (s raw : EReal) (bit : BitVec 1) :
    (Ideal.ofBits .f32 0x3F000000#32 < valid s raw bit) = (threshold raw bit < s) := by
  rw [Consts.cHalf, valid]
  split
  · rename_i h
    exact propext ⟨fun _ => h, fun _ => by norm_cast; norm_num⟩
  · rename_i h
    exact propext ⟨fun h' => absurd h' (by norm_cast; norm_num), fun h' => absurd h' h⟩

/-- The column of zeros and ones that the kernel stores beside its result. -/
def flags (V0 : Valuation Cert.ReferenceIdeal.τ Cert.ReferenceIdeal.sig (Elt Ideal)) : FVec Ideal Cert.KernelIdeal.S4096x1 .f32 := fun i =>
  valid (TopFive.top TopFive.six (simOf V0 (i 0)) 0) ((V0 (Proc.devRef .tc Cert.ReferenceIdeal.main_arg7) : FVec Ideal Cert.ReferenceIdeal.S_ .f32) ix0)
    ((V0 (Proc.devRef .tc Cert.ReferenceIdeal.main_arg8) : IVec Cert.ReferenceIdeal.S4096 1) (ix1 (i 0)))

theorem flags_row (V0 : Valuation Cert.ReferenceIdeal.τ Cert.ReferenceIdeal.sig (Elt Ideal)) (b : Fin 4096) :
    flags V0 (ix2 b 0) = valid (TopFive.top TopFive.six (simOf V0 b) 0)
      ((V0 (Proc.devRef .tc Cert.ReferenceIdeal.main_arg7) : FVec Ideal Cert.ReferenceIdeal.S_ .f32) ix0)
      ((V0 (Proc.devRef .tc Cert.ReferenceIdeal.main_arg8) : IVec Cert.ReferenceIdeal.S4096 1) (ix1 b)) := rfl

theorem algebraic : Cert.algebraic_KernelIdeal_ReferenceIdeal_pre_finite_and_untied := by
  intro m g m' g' hpre hag
  refine ⟨_, _, ?_, Cert.ReferenceIdeal.Value.run (F := Ideal) m' g'⟩
  run_from (Cert.KernelIdeal.Gen.run_main m g) & (Cert.KernelIdeal.Gen.unchanged m g)
  all_goals
    have e : Same m c (StableHlo.launchContents m' c) :=
      ⟨(hag c).1.symm, (hag c).2.1.symm, (hag c).2.2.1.symm, (hag c).2.2.2.1.symm, (hag c).2.2.2.2.1.symm,
        (hag c).2.2.2.2.2.1.symm, (hag c).2.2.2.2.2.2.1.symm, (hag c).2.2.2.2.2.2.2.1.symm, (hag c).2.2.2.2.2.2.2.2.symm⟩
    obtain ⟨p0, p1, p2, p3⟩ : (bits (StableHlo.launchContents m' c)).1 = (fun _ => 1#1) ∧ (bits (StableHlo.launchContents m' c)).2.1 = (fun _ => 1#1)
        ∧ (bits (StableHlo.launchContents m' c)).2.2.1 = (fun _ => 1#1) ∧ (bits (StableHlo.launchContents m' c)).2.2.2 = (fun _ => 1#1) := by
      have h := hpre c
      rw [e.a0, e.a1, e.a2, e.a3, e.a4, e.a5, e.a6, e.a7, e.a8] at h
      exact h
  · exact final8 e p0 p1 p2 p3 _ fun b d => out_row _ b d
  · funext i
    obtain ⟨b, rfl⟩ : ∃ b : Fin 4096, i = ix1 b := ⟨i 0, by ext a; fin_cases a; rfl⟩
    refine (tail_row m c _ (final9 e p0 p1 (flags (StableHlo.launchContents m' c)) (flags_row _)) b).trans ?_
    rw [flags_row]
    refine Eq.trans ?_ (bit_row _ b).symm
    simp only [half_lt_valid]

end Cert.Claims
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_untied
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_and_untied.Gen.facts,
  Cert.Claims.frame_p, Cert.Claims.frame_pi, Cert.Claims.frame_pi_pre, Cert.Claims.frame_ri, Cert.Claims.frame_ri_pre,
  Cert.Claims.preserves, Cert.Claims.algebraic⟩

end Cert.Proof

end
